-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S28x1536x256 : Shape := ⟨3, ![28, 1536, 256]⟩
abbrev S28x256 : Shape := ⟨2, ![28, 256]⟩
abbrev S1536x1536 : Shape := ⟨2, ![1536, 1536]⟩
abbrev S28x128x128 : Shape := ⟨3, ![28, 128, 128]⟩
abbrev S28x1x256 : Shape := ⟨3, ![28, 1, 256]⟩
abbrev S28x768x256 : Shape := ⟨3, ![28, 768, 256]⟩
abbrev S28x12x256 : Shape := ⟨3, ![28, 12, 256]⟩
abbrev S1x1536x256 : Shape := ⟨3, ![1, 1536, 256]⟩
abbrev S1x1x256 : Shape := ⟨3, ![1, 1, 256]⟩
abbrev S1x128x128 : Shape := ⟨3, ![1, 128, 128]⟩
abbrev S1x768x256 : Shape := ⟨3, ![1, 768, 256]⟩
abbrev S1x12x256 : Shape := ⟨3, ![1, 12, 256]⟩
abbrev S2x1536x128 : Shape := ⟨3, ![2, 1536, 128]⟩
abbrev S256x256 : Shape := ⟨2, ![256, 256]⟩
abbrev S1536x256 : Shape := ⟨2, ![1536, 256]⟩
abbrev S1x256 : Shape := ⟨2, ![1, 256]⟩
abbrev S128x128 : Shape := ⟨2, ![128, 128]⟩
abbrev S128x256 : Shape := ⟨2, ![128, 256]⟩
abbrev S256x1536 : Shape := ⟨2, ![256, 1536]⟩
abbrev S256x128 : Shape := ⟨2, ![256, 128]⟩
abbrev S1x256x128 : Shape := ⟨3, ![1, 256, 128]⟩
abbrev S1x64x128 : Shape := ⟨3, ![1, 64, 128]⟩
abbrev S64x128 : Shape := ⟨2, ![64, 128]⟩
abbrev S128 : Shape := ⟨1, ![128]⟩
abbrev S1x128 : Shape := ⟨2, ![1, 128]⟩
abbrev S1x1x128 : Shape := ⟨3, ![1, 1, 128]⟩
abbrev S1x2x128 : Shape := ⟨3, ![1, 2, 128]⟩

abbrev nBuf : Space → Nat
  | .hbm => 7
  | .vmem => 13
  | .smem => 0
  | _ => 0

abbrev bufTy : (tb : Table) → Fin (tcTables nBuf tb) → BufTy
  | .hbm, ⟨0, _⟩ => ⟨S28x1536x256, .i8⟩
  | .hbm, ⟨1, _⟩ => ⟨S28x256, .f32⟩
  | .hbm, ⟨2, _⟩ => ⟨S1536x1536, .bf16⟩
  | .hbm, ⟨3, _⟩ => ⟨S28x128x128, .bf16⟩
  | .hbm, ⟨4, _⟩ => ⟨S28x1x256, .f32⟩
  | .hbm, ⟨5, _⟩ => ⟨S28x768x256, .i8⟩
  | .hbm, ⟨6, _⟩ => ⟨S28x12x256, .bf16⟩
  | .local _ .vmem, ⟨0, _⟩ => ⟨S1x1536x256, .i8⟩
  | .local _ .vmem, ⟨1, _⟩ => ⟨S1x1536x256, .i8⟩
  | .local _ .vmem, ⟨2, _⟩ => ⟨S1x1x256, .f32⟩
  | .local _ .vmem, ⟨3, _⟩ => ⟨S1x1x256, .f32⟩
  | .local _ .vmem, ⟨4, _⟩ => ⟨S1536x1536, .bf16⟩
  | .local _ .vmem, ⟨5, _⟩ => ⟨S1x128x128, .bf16⟩
  | .local _ .vmem, ⟨6, _⟩ => ⟨S1x128x128, .bf16⟩
  | .local _ .vmem, ⟨7, _⟩ => ⟨S1x768x256, .i8⟩
  | .local _ .vmem, ⟨8, _⟩ => ⟨S1x768x256, .i8⟩
  | .local _ .vmem, ⟨9, _⟩ => ⟨S1x12x256, .bf16⟩
  | .local _ .vmem, ⟨10, _⟩ => ⟨S1x12x256, .bf16⟩
  | .local _ .vmem, ⟨11, _⟩ => ⟨S1536x1536, .bf16⟩
  | .local _ .vmem, ⟨12, _⟩ => ⟨S2x1536x128, .f32⟩
  | _, _ => ⟨S28x1536x256, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![28], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1536x256 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1536x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x768x256 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x12x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S28x1536x256 : Shape := ⟨3, ![28, 1536, 256]⟩
abbrev S28x256 : Shape := ⟨2, ![28, 256]⟩
abbrev S1536x1536 : Shape := ⟨2, ![1536, 1536]⟩
abbrev S28x128x128 : Shape := ⟨3, ![28, 128, 128]⟩
abbrev S28x256x1536 : Shape := ⟨3, ![28, 256, 1536]⟩
abbrev S28x1x256 : Shape := ⟨3, ![28, 1, 256]⟩
abbrev S28x1536x2x128 : Shape := ⟨4, ![28, 1536, 2, 128]⟩
abbrev S28x12x128x256 : Shape := ⟨4, ![28, 12, 128, 256]⟩
abbrev S_ : Shape := ⟨0, ![]⟩
abbrev S28x12x256 : Shape := ⟨3, ![28, 12, 256]⟩
abbrev S28x12x1x256 : Shape := ⟨4, ![28, 12, 1, 256]⟩
abbrev S28x768x256 : Shape := ⟨3, ![28, 768, 256]⟩

abbrev nBuf : Space → Nat
  | .hbm => 61
  | .vmem => 0
  | .smem => 0
  | _ => 0

abbrev bufTy : (tb : Table) → Fin (tcTables nBuf tb) → BufTy
  | .hbm, ⟨0, _⟩ => ⟨S28x1536x256, .i8⟩
  | .hbm, ⟨1, _⟩ => ⟨S28x256, .f32⟩
  | .hbm, ⟨2, _⟩ => ⟨S1536x1536, .bf16⟩
  | .hbm, ⟨3, _⟩ => ⟨S28x128x128, .bf16⟩
  | .hbm, ⟨4, _⟩ => ⟨S28x1536x256, .i32⟩
  | .hbm, ⟨5, _⟩ => ⟨S28x1536x256, .bf16⟩
  | .hbm, ⟨6, _⟩ => ⟨S28x256x1536, .f32⟩
  | .hbm, ⟨7, _⟩ => ⟨S28x1536x256, .f32⟩
  | .hbm, ⟨8, _⟩ => ⟨S28x1x256, .f32⟩
  | .hbm, ⟨9, _⟩ => ⟨S28x1536x256, .f32⟩
  | .hbm, ⟨10, _⟩ => ⟨S28x1536x256, .f32⟩
  | .hbm, ⟨11, _⟩ => ⟨S28x1536x2x128, .f32⟩
  | .hbm, ⟨12, _⟩ => ⟨S28x128x128, .f32⟩
  | .hbm, ⟨13, _⟩ => ⟨S28x1536x2x128, .f32⟩
  | .hbm, ⟨14, _⟩ => ⟨S28x1536x256, .f32⟩
  | .hbm, ⟨15, _⟩ => ⟨S28x12x128x256, .f32⟩
  | .hbm, ⟨16, _⟩ => ⟨S28x12x128x256, .f32⟩
  | .hbm, ⟨17, _⟩ => ⟨S_, .f32⟩
  | .hbm, ⟨18, _⟩ => ⟨S28x12x256, .f32⟩
  | .hbm, ⟨19, _⟩ => ⟨S_, .f32⟩
  | .hbm, ⟨20, _⟩ => ⟨S28x12x256, .f32⟩
  | .hbm, ⟨21, _⟩ => ⟨S28x12x256, .i1⟩
  | .hbm, ⟨22, _⟩ => ⟨S_, .f32⟩
  | .hbm, ⟨23, _⟩ => ⟨S28x12x256, .f32⟩
  | .hbm, ⟨24, _⟩ => ⟨S28x12x256, .f32⟩
  | .hbm, ⟨25, _⟩ => ⟨S_, .f32⟩
  | .hbm, ⟨26, _⟩ => ⟨S_, .f32⟩
  | .hbm, ⟨27, _⟩ => ⟨S28x12x256, .f32⟩
  | .hbm, ⟨28, _⟩ => ⟨S28x12x256, .f32⟩
  | .hbm, ⟨29, _⟩ => ⟨S28x12x256, .bf16⟩
  | .hbm, ⟨30, _⟩ => ⟨S28x12x256, .f32⟩
  | .hbm, ⟨31, _⟩ => ⟨S28x12x1x256, .f32⟩
  | .hbm, ⟨32, _⟩ => ⟨S28x12x128x256, .f32⟩
  | .hbm, ⟨33, _⟩ => ⟨S28x12x128x256, .f32⟩
  | .hbm, ⟨34, _⟩ => ⟨S28x12x128x256, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S28x12x128x256, .f32⟩
  | .hbm, ⟨39, _⟩ => ⟨S28x12x128x256, .f32⟩
  | .hbm, ⟨40, _⟩ => ⟨S_, .f32⟩
  | .hbm, ⟨41, _⟩ => ⟨S28x12x128x256, .f32⟩
  | .hbm, ⟨42, _⟩ => ⟨S28x12x128x256, .f32⟩
  | .hbm, ⟨43, _⟩ => ⟨S28x12x128x256, .i32⟩
  | .hbm, ⟨44, _⟩ => ⟨S28x12x128x256, .i8⟩
  | .hbm, ⟨45, _⟩ => ⟨S28x1536x256, .i8⟩
  | .hbm, ⟨46, _⟩ => ⟨S28x768x256, .i8⟩
  | .hbm, ⟨47, _⟩ => ⟨S28x768x256, .i32⟩
  | .hbm, ⟨48, _⟩ => ⟨S_, .i32⟩
  | .hbm, ⟨49, _⟩ => ⟨S28x768x256, .i32⟩
  | .hbm, ⟨50, _⟩ => ⟨S28x768x256, .i32⟩
  | .hbm, ⟨51, _⟩ => ⟨S28x768x256, .i8⟩
  | .hbm, ⟨52, _⟩ => ⟨S28x768x256, .i32⟩
  | .hbm, ⟨53, _⟩ => ⟨S_, .i32⟩
  | .hbm, ⟨54, _⟩ => ⟨S28x768x256, .i32⟩
  | .hbm, ⟨55, _⟩ => ⟨S28x768x256, .i32⟩
  | .hbm, ⟨56, _⟩ => ⟨S_, .i32⟩
  | .hbm, ⟨57, _⟩ => ⟨S28x768x256, .i32⟩
  | .hbm, ⟨58, _⟩ => ⟨S28x768x256, .i32⟩
  | .hbm, ⟨59, _⟩ => ⟨S28x768x256, .i32⟩
  | .hbm, ⟨60, _⟩ => ⟨S28x768x256, .i8⟩
  | _, _ => ⟨S28x1536x256, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_cst_4 : Ref sig .tc := ⟨.hbm, 36, rfl⟩
abbrev main_call2_v0 : Ref sig .tc := ⟨.hbm, 37, rfl⟩
abbrev main_call2_v1 : Ref sig .tc := ⟨.hbm, 38, rfl⟩
abbrev main_call2_v2 : Ref sig .tc := ⟨.hbm, 39, rfl⟩
abbrev main_call2_v3 : Ref sig .tc := ⟨.hbm, 40, rfl⟩
abbrev main_call2_v4 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_5 : Ref sig .tc := ⟨.hbm, 53, rfl⟩
abbrev main_v35 : Ref sig .tc := ⟨.hbm, 54, rfl⟩
abbrev main_v36 : Ref sig .tc := ⟨.hbm, 55, rfl⟩
abbrev main_c_6 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩

abbrev nD : Nat := 1
abbrev τ : Topo := Topo.v7x

variable {F : FTy → Type} [FloatOps F]
-- ==== Proof.Runs.lean ====
module

public import proofs.«01_k».proof.Proof.Gen.KernelIdeal.Skeleton
public import proofs.«01_k».proof.Proof.Gen.KernelIdeal.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 28 = 0 :=
  (fun t => by
    have ht : t.val < 28 := Nat.lt_of_lt_of_eq t.isLt N_0
    have e0 : (grid0.coords t 0).val = t.val / 1 % 28 := Pipeline.Grid.coords_val t 0 (by decide) rfl
    simp only [cond0_0, e0]
    word_cmp
   : ∀ t : Fin grid0.N, cond0_0 (grid0.coords t) ↔ t.val % 28 = 0)

/-! ## The kernel body on any staging memrefs: a subtype the run finds -/

/-- One staging buffer of output window 4, through which its contents are stated (`View.read_writes_of_cover`: the
    choice does not matter). -/
abbrev VO0_4 : View sig .tc .vmem S1x768x256 .i8 := (Memref.whole cc0_stg4_0 : Memref sig .tc .vmem S1x768x256 .i8).view
/-- One staging buffer of output window 5, through which its contents are stated (`View.read_writes_of_cover`: the
    choice does not matter). -/
abbrev VO0_5 : View sig .tc .vmem S1x12x256 .bf16 := (Memref.whole cc0_stg5_0 : Memref sig .tc .vmem S1x12x256 .bf16).view
/-- Each window's current staging memref at point `t`, spelled as the pipeline passes it (`bodyAt0`), and its wholeness. -/
abbrev ms0_0 (t : Fin cfg0.N) : Memref sig .tc .vmem S1x1536x256 .i8 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1536x1536 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x768x256 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x12x256 .bf16 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S1536x1536 .bf16 := Memref.whole cc0_scratch0
abbrev scM0_1 : Memref sig .tc .vmem S2x1536x128 .f32 := Memref.whole cc0_scratch1
/-- The scratch `arg7` the kernel carries between points, as a view: what it holds is stated through it. -/
abbrev VS0_0 : View sig .tc .vmem S1536x1536 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Hand

end
-- ==== Proof.RunA.lean ====
module

public import proofs.«01_k».proof.Proof.Runs

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 1996000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S1x1536x256 .i8) (harg1 : arg1.IsWhole) (arg2 : Memref sig .tc .vmem S1x1x256 .f32) (harg2 : arg2.IsWhole) (arg3 : Memref sig .tc .vmem S1536x1536 .bf16) (harg3 : arg3.IsWhole) (arg4 : Memref sig .tc .vmem S1x128x128 .bf16) (harg4 : arg4.IsWhole) (arg5 : Memref sig .tc .vmem S1x768x256 .i8) (harg5 : arg5.IsWhole) (arg6 : Memref sig .tc .vmem S1x12x256 .bf16) (harg6 : arg6.IsWhole) (arg7 : Memref sig .tc .vmem S1536x1536 .bf16) (harg7 : arg7.IsWhole) (arg8 : Memref sig .tc .vmem S2x1536x128 .f32) (harg8 : arg8.IsWhole) (hc0 : cond0_0 i)
    (x0 : Vec F S1x1536x256 .i8) (x1 : Vec F S1x1x256 .f32) (x2 : Vec F S1536x1536 .bf16) (x3 : Vec F S1x128x128 .bf16) :
    Σ' (L4 : List (View.Piece (Elt F) S1x768x256 .i8)), Σ' (L5 : Vec F S1x12x256 .bf16 → List (View.Piece (Elt F) S1x12x256 .bf16)), Σ' (LS0 : List (View.Piece (Elt F) S1536x1536 .bf16)), { LT1 : List (View.Piece (Elt F) S2x1536x128 .f32) //
      ∀ (x5 : Vec F S1x12x256 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare x5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (arg6.view.loc (c : Thread nD τ) ↦[arg6.view.set]{fullShare} arg6.view.writes (Elt F) (harg6.unread x5) (L5 x5)) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LT1)) -∗ K ⟨⟩))
          ⊢ wp frame (wpE (defs₀ (F := F)) Variants.none c none) E (cc0_spinquant_fold i arg1 harg1 arg2 harg2 arg3 harg3 arg4 harg4 arg5 harg5 arg6 harg6 arg7 harg7 arg8 harg8) K } := by
  refine ⟨?_, ?_, ?_, ?_, fun x5 E K => ?run⟩
  case run =>
    simp only [cc0_spinquant_fold_eq_skeleton]; unfold cc0_spinquant_fold_skel
    simp only [k0_part7_eq_skeleton, k0_part1_eq_skeleton, k0_part2_eq_skeleton, k0_part3_eq_skeleton, k0_part4_eq_skeleton, k0_part5_eq_skeleton, k0_part6_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg6.eq_unread hf5
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexact H5
    isplitl [HS0]; · iexists _; iexact HS0
    iexists _; iexact HS1

end Cert.KernelIdeal.Hand

end
-- ==== Proof.RunB.lean ====
module

public import proofs.«01_k».proof.Proof.Runs

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 1372000 in
/-- What the body's stores leave in each output's staging memref, as pieces (last first) IN CASE B (`scf.if` 0 not taken: points 1, 2, … 27: 27 of 28), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S1x1536x256 .i8) (harg1 : arg1.IsWhole) (arg2 : Memref sig .tc .vmem S1x1x256 .f32) (harg2 : arg2.IsWhole) (arg3 : Memref sig .tc .vmem S1536x1536 .bf16) (harg3 : arg3.IsWhole) (arg4 : Memref sig .tc .vmem S1x128x128 .bf16) (harg4 : arg4.IsWhole) (arg5 : Memref sig .tc .vmem S1x768x256 .i8) (harg5 : arg5.IsWhole) (arg6 : Memref sig .tc .vmem S1x12x256 .bf16) (harg6 : arg6.IsWhole) (arg7 : Memref sig .tc .vmem S1536x1536 .bf16) (harg7 : arg7.IsWhole) (arg8 : Memref sig .tc .vmem S2x1536x128 .f32) (harg8 : arg8.IsWhole) (hc0 : ¬cond0_0 i)
    (x0 : Vec F S1x1536x256 .i8) (x1 : Vec F S1x1x256 .f32) (x2 : Vec F S1536x1536 .bf16) (x3 : Vec F S1x128x128 .bf16) (xs0 : Vec F S1536x1536 .bf16) :
    Σ' (L4 : List (View.Piece (Elt F) S1x768x256 .i8)), Σ' (L5 : Vec F S1x12x256 .bf16 → List (View.Piece (Elt F) S1x12x256 .bf16)), Σ' (LS0 : List (View.Piece (Elt F) S1536x1536 .bf16)), { LT1 : List (View.Piece (Elt F) S2x1536x128 .f32) //
      ∀ (x5 : Vec F S1x12x256 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare x5 ∗ owns (c : Thread nD τ) arg7 fullShare xs0 ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (arg6.view.loc (c : Thread nD τ) ↦[arg6.view.set]{fullShare} arg6.view.writes (Elt F) (harg6.unread x5) (L5 x5)) ∗ owns (c : Thread nD τ) arg7 fullShare xs0 ∗ (∃ f, arg8.view.loc (c : Thread nD τ) ↦[arg8.view.set]{fullShare} arg8.view.writes (Elt F) f LT1)) -∗ K ⟨⟩))
          ⊢ wp frame (wpE (defs₀ (F := F)) Variants.none c none) E (cc0_spinquant_fold i arg1 harg1 arg2 harg2 arg3 harg3 arg4 harg4 arg5 harg5 arg6 harg6 arg7 harg7 arg8 harg8) K } := by
  refine ⟨?_, ?_, [], ?_, fun x5 E K => ?run⟩
  case run =>
    simp only [cc0_spinquant_fold_eq_skeleton]; unfold cc0_spinquant_fold_skel
    simp only [k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hfs0, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg6.eq_unread hf5; obtain rfl := harg7.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexact H5
    isplitl [HS0]
    · iexists _; isplitr; · ipureintro; exact harg7.read_unread _
      iexact HS0
    iexists _; iexact HS1

end Cert.KernelIdeal.Hand

end
-- ==== Proof.Closed.lean ====
module

public import proofs.«01_k».proof.Proof.RunA
public import proofs.«01_k».proof.Proof.RunB

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles, by head, group and row chunk -/

/-- The stores of the rotated rows: head `p.1`, row chunk `p.2`, the last one first. -/
abbrev hks : List (Fin 2 × Fin 6) := [(1, 5), (0, 5), (1, 4), (0, 4), (1, 3), (0, 3), (1, 2), (0, 2), (1, 1), (0, 1), (1, 0), (0, 0)]
/-- The stores of the codes: head `p.1`, group `p.2`, the last one first. -/
abbrev hgs : List (Fin 2 × Fin 12) := [(1, 11), (1, 10), (1, 9), (1, 8), (1, 7), (1, 6), (1, 5), (1, 4), (1, 3), (1, 2), (1, 1), (1, 0), (0, 11), (0, 10), (0, 9), (0, 8), (0, 7), (0, 6), (0, 5), (0, 4), (0, 3), (0, 2), (0, 1), (0, 0)]
/-- The stores of the scales, two groups to a word row: head `p.1`, groups `2 * p.2` and `2 * p.2 + 1`, the last ones first. -/
abbrev hps : List (Fin 2 × Fin 6) := [(1, 5), (1, 4), (1, 3), (1, 2), (1, 1), (1, 0), (0, 5), (0, 4), (0, 3), (0, 2), (0, 1), (0, 0)]
/-- The stores of the transposed rotation: row block `p.1`, column block `p.2`, the last one first. -/
abbrev ijs : List (Fin 6 × Fin 6) := [(5, 5), (5, 4), (5, 3), (5, 2), (5, 1), (5, 0), (4, 5), (4, 4), (4, 3), (4, 2), (4, 1), (4, 0), (3, 5), (3, 4), (3, 3), (3, 2), (3, 1), (3, 0), (2, 5), (2, 4), (2, 3), (2, 2), (2, 1), (2, 0), (1, 5), (1, 4), (1, 3), (1, 2), (1, 1), (1, 0), (0, 5), (0, 4), (0, 3), (0, 2), (0, 1), (0, 0)]

theorem mem_hks (p : Fin 2 × Fin 6) : p ∈ hks := by revert p; decide
theorem mem_hgs (p : Fin 2 × Fin 12) : p ∈ hgs := by revert p; decide
theorem mem_hps (p : Fin 2 × Fin 6) : p ∈ hps := by revert p; decide
theorem mem_ijs (p : Fin 6 × Fin 6) : p ∈ ijs := by revert p; decide

theorem slices_head (h : Fin 2) : S256x256.Slices ![0, 128 * h.val] S256x128 :=
  ⟨rfl, fun a => by have := h.isLt; match a with | ⟨0, _⟩ => (show 0 + 256 ≤ 256; omega) | ⟨1, _⟩ => (show 128 * h.val + 128 ≤ 256; omega)⟩

theorem inb_rot (p : Fin 2 × Fin 6) : ∀ a, (![p.1.val, 256 * p.2.val, 0] : Fin 3 → Nat) a + S1x256x128.size a ≤ S2x1536x128.size a := fun a => by
  have := p.1.isLt; have := p.2.isLt
  match a with
  | ⟨0, _⟩ => (show p.1.val + 1 ≤ 2; omega)
  | ⟨1, _⟩ => (show 256 * p.2.val + 256 ≤ 1536; omega)
  | ⟨2, _⟩ => (show 0 + 128 ≤ 128; omega)

theorem inb_box (p : Fin 2 × Fin 12) (q : Fin 2) : ∀ a, S1x64x128.size a = 0 ∨
    (![p.1.val, 128 * p.2.val + q.val, 0] : Fin 3 → Nat) a + (![1, 2, 1] : Fin 3 → Nat) a * (S1x64x128.size a - 1) < S2x1536x128.size a := fun a => by
  have := p.1.isLt; have := p.2.isLt; have := q.isLt
  match a with
  | ⟨0, _⟩ => (right; show p.1.val + 1 * (1 - 1) < 2; omega)
  | ⟨1, _⟩ => (right; show 128 * p.2.val + q.val + 2 * (64 - 1) < 1536; omega)
  | ⟨2, _⟩ => (right; show 0 + 1 * (128 - 1) < 128; omega)

theorem inb_code (p : Fin 2 × Fin 12) : ∀ a, (![0, 64 * p.2.val, 128 * p.1.val] : Fin 3 → Nat) a + S1x64x128.size a ≤ S1x768x256.size a := fun a => by
  have := p.1.isLt; have := p.2.isLt
  match a with
  | ⟨0, _⟩ => (show 0 + 1 ≤ 1; omega)
  | ⟨1, _⟩ => (show 64 * p.2.val + 64 ≤ 768; omega)
  | ⟨2, _⟩ => (show 128 * p.1.val + 128 ≤ 256; omega)

theorem inb_pair (p : Fin 2 × Fin 6) : ∀ a, (![0, 2 * p.2.val, 128 * p.1.val] : Fin 3 → Nat) a + S1x2x128.size a ≤ S1x12x256.size a := fun a => by
  have := p.1.isLt; have := p.2.isLt
  match a with
  | ⟨0, _⟩ => (show 0 + 1 ≤ 1; omega)
  | ⟨1, _⟩ => (show 2 * p.2.val + 2 ≤ 12; omega)
  | ⟨2, _⟩ => (show 128 * p.1.val + 128 ≤ 256; omega)

theorem inb_tr (p : Fin 6 × Fin 6) : ∀ a, (![256 * p.1.val, 256 * p.2.val] : Fin 2 → Nat) a + S256x256.size a ≤ S1536x1536.size a := fun a => by
  have := p.1.isLt; have := p.2.isLt
  match a with
  | ⟨0, _⟩ => (show 256 * p.1.val + 256 ≤ 1536; omega)
  | ⟨1, _⟩ => (show 256 * p.2.val + 256 ≤ 1536; omega)

theorem inb_rows (k : Fin 6) : ∀ a, (![256 * k.val, 0] : Fin 2 → Nat) a + S256x1536.size a ≤ S1536x1536.size a := fun a => by
  have := k.isLt
  match a with
  | ⟨0, _⟩ => (show 256 * k.val + 256 ≤ 1536; omega)
  | ⟨1, _⟩ => (show 0 + 1536 ≤ 1536; omega)

/-- The block of rotated rows of one head and one row chunk. -/
abbrev rotRect (p : Fin 2 × Fin 6) : Rect S2x1536x128 := Rect.unit (s := S2x1536x128) ![p.1.val, 256 * p.2.val, 0] S1x256x128.size (inb_rot p)
/-- Every second row of one head's group, from its first row (`q = 0`) or from its second (`q = 1`). -/
abbrev boxRect (p : Fin 2 × Fin 12) (q : Fin 2) : LoadRect S2x1536x128 := ⟨![p.1.val, 128 * p.2.val + q.val, 0], S1x64x128.size, ![1, 2, 1], inb_box p q⟩
/-- The block of codes of one head and one group. -/
abbrev codeRect (p : Fin 2 × Fin 12) : Rect S1x768x256 := Rect.unit (s := S1x768x256) ![0, 64 * p.2.val, 128 * p.1.val] S1x64x128.size (inb_code p)
/-- The two rows of scales that share words: one head, two groups. -/
abbrev pairRect (p : Fin 2 × Fin 6) : Rect S1x12x256 := Rect.unit (s := S1x12x256) ![0, 2 * p.2.val, 128 * p.1.val] S1x2x128.size (inb_pair p)
/-- One square block of the rotation. -/
abbrev trRect (p : Fin 6 × Fin 6) : Rect S1536x1536 := Rect.unit (s := S1536x1536) ![256 * p.1.val, 256 * p.2.val] S256x256.size (inb_tr p)
/-- One chunk of rows of the transposed rotation. -/
abbrev rowsRect (k : Fin 6) : Rect S1536x1536 := Rect.unit (s := S1536x1536) ![256 * k.val, 0] S256x1536.size (inb_rows k)

/-! ## What the body computes, by head, group and row chunk -/

/-- One head's rotated rows of one chunk: the scaled product split into three parts, each multiplied by the head's rotation. -/
def headPay (h : Fin 2) (v3 : Vec F S1x1536x256 .i8) (v6 : Vec F S1x1x256 .f32) (v8 : Vec F S1x128x128 .bf16) (v12 : Vec F S256x1536 .bf16) : Vec F S1x256x128 .f32 :=
  shapeCast S1x256x128 (transpose S256x128 [1, 0]
    (addf (matmul dot_S128x256_S256x256_S128x256_1_1_0_0_n_n none (k0_pay40 v8)
        (concatenate S256x256 1 [⟨S256x128, extractStridedSlice S256x128 ![0, 128 * h.val] (k0_pay42 v3 v6 v12) (slices_head h)⟩,
          ⟨S256x128, extractStridedSlice S256x128 ![0, 128 * h.val] (k0_pay44 v3 v6 v12) (slices_head h)⟩] concatenates_S256x128_S256x128_S256x256_d1)
        (constant S128x256 .f32 0x00000000#32))
      (matmul dot_S128x128_S256x128_S128x256_1_1_0_0_n_n none (k0_pay39 v8)
        (extractStridedSlice S256x128 ![0, 128 * h.val] (k0_pay45 v3 v6 v12) (slices_head h))
        (constant S128x256 .f32 0x00000000#32)))
    transposes_S128x256_p1_0_S256x128) shapeCasts_S256x128_S1x256x128

/-- The packed codes of a group, from its even and its odd rows. -/
def codePay (e o : Vec F S1x64x128 .f32) : Vec F S1x64x128 .i8 := k0_pay93 (k0_pay91 e o) (k0_pay92 e o)
/-- The scale of a group, from its even and its odd rows. -/
def scalePay (e o : Vec F S1x64x128 .f32) : Vec F S1x1x128 .bf16 := k0_pay89 e o

/-- The stores of the rotated rows. -/
def L8 (v3 : Vec F S1x1536x256 .i8) (v6 : Vec F S1x1x256 .f32) (v8 : Vec F S1x128x128 .bf16) (rows : Fin 6 → Vec F S256x1536 .bf16) :
    List (View.Piece (Elt F) S2x1536x128 .f32) :=
  hks.map fun p => ⟨rotRect p, headPay p.1 v3 v6 v8 (rows p.2)⟩

/-- The stores of the codes, from the rows read back. -/
def L4 (w : Fin 2 × Fin 12 → Fin 2 → Vec F S1x64x128 .f32) : List (View.Piece (Elt F) S1x768x256 .i8) :=
  hgs.map fun p => ⟨codeRect p, codePay (w p 0) (w p 1)⟩

/-- Group `2 * g + q` of a pair of groups. -/
def grp (g : Fin 6) (q : Fin 2) : Fin 12 := ⟨2 * g.val + q.val, by have := g.isLt; have := q.isLt; omega⟩

/-- The stores of the scales. Each stores two rows: the row it computes and the other row as it was. -/
def L5 (v : View sig .tc .vmem S1x12x256 .bf16) (f : v.ty.Contents (Elt F)) (w : Fin 2 × Fin 12 → Fin 2 → Vec F S1x64x128 .f32) :
    List (Fin 2 × Fin 6) → List (View.Piece (Elt F) S1x12x256 .bf16)
  | [] => []
  | p :: l =>
    let p0 : View.Piece (Elt F) S1x12x256 .bf16 := ⟨pairRect p, updateSlice (v.readAt (Elt F) (pairRect p).toLoadRect f) (scalePay (w (p.1, grp p.2 0) 0) (w (p.1, grp p.2 0) 1)) ![0, 0, 0] slices_S1x2x128_S1x1x128_0_0_0⟩
    ⟨pairRect p, updateSlice (v.readCov (p0 :: L5 v f w l) (pairRect p).toLoadRect) (scalePay (w (p.1, grp p.2 1) 0) (w (p.1, grp p.2 1) 1)) ![0, 1, 0] slices_S1x2x128_S1x1x128_0_1_0⟩
      :: p0 :: L5 v f w l

/-- The stores of the transposed rotation. -/
def L7 (x : Fin 6 × Fin 6 → Vec F S256x256 .bf16) : List (View.Piece (Elt F) S1536x1536 .bf16) :=
  ijs.map fun p => ⟨trRect p, k0_pay1 (x (p.2, p.1))⟩

section
variable (c : Dev nD) (i : grid0.Coords) (arg1 : Memref sig .tc .vmem S1x1536x256 .i8) (harg1 : arg1.IsWhole) (arg2 : Memref sig .tc .vmem S1x1x256 .f32) (harg2 : arg2.IsWhole) (arg3 : Memref sig .tc .vmem S1536x1536 .bf16) (harg3 : arg3.IsWhole) (arg4 : Memref sig .tc .vmem S1x128x128 .bf16) (harg4 : arg4.IsWhole) (arg5 : Memref sig .tc .vmem S1x768x256 .i8) (harg5 : arg5.IsWhole) (arg6 : Memref sig .tc .vmem S1x12x256 .bf16) (harg6 : arg6.IsWhole) (arg7 : Memref sig .tc .vmem S1536x1536 .bf16) (harg7 : arg7.IsWhole) (arg8 : Memref sig .tc .vmem S2x1536x128 .f32) (harg8 : arg8.IsWhole)
    (x0 : Vec F S1x1536x256 .i8) (x1 : Vec F S1x1x256 .f32) (x2 : Vec F S1536x1536 .bf16) (x3 : Vec F S1x128x128 .bf16) (x5 : Vec F S1x12x256 .bf16) (xs0 : Vec F S1536x1536 .bf16)

/-- The rotated rows as the body stores them, from the three input blocks in their buffers and the rows of the transposed rotation. -/
def L8' (rows : Fin 6 → Vec F S256x1536 .bf16) : List (View.Piece (Elt F) S2x1536x128 .f32) :=
  L8 (arg1.view.readAt (Elt F) (Rect.unit (s := S1x1536x256) ![0, 0, 0] S1x1536x256.size inb_S1x1536x256_S1x1536x256_0_0_0).toLoadRect (harg1.unread x0))
    (arg2.view.readAt (Elt F) (Rect.unit (s := S1x1x256) ![0, 0, 0] S1x1x256.size inb_S1x1x256_S1x1x256_0_0_0).toLoadRect (harg2.unread x1))
    (arg4.view.readAt (Elt F) (Rect.unit (s := S1x128x128) ![0, 0, 0] S1x128x128.size inb_S1x128x128_S1x128x128_0_0_0).toLoadRect (harg4.unread x3))
    rows

/-- The rows the body reads back. -/
def w8 (rows : Fin 6 → Vec F S256x1536 .bf16) (p : Fin 2 × Fin 12) (q : Fin 2) : Vec F S1x64x128 .f32 :=
  arg8.view.readCov (L8' arg1 harg1 arg2 harg2 arg4 harg4 x0 x1 x3 rows) (boxRect p q)

/-- The rows of the transposed rotation found in place, -/
def rowsB (k : Fin 6) : Vec F S256x1536 .bf16 := arg7.view.readAt (Elt F) (rowsRect k).toLoadRect (harg7.unread xs0)
/-- and just stored. -/
def L7' : List (View.Piece (Elt F) S1536x1536 .bf16) := L7 fun p => arg3.view.readAt (Elt F) (trRect p).toLoadRect (harg3.unread x2)
def rowsA (k : Fin 6) : Vec F S256x1536 .bf16 := arg7.view.readCov (L7' arg3 harg3 x2) (rowsRect k).toLoadRect

theorem runB_4 (hc0 : ¬cond0_0 i) :
    (kernelRun0_B c i arg1 harg1 arg2 harg2 arg3 harg3 arg4 harg4 arg5 harg5 arg6 harg6 arg7 harg7 arg8 harg8 hc0 x0 x1 x2 x3 xs0).1
      = L4 (w8 arg1 harg1 arg2 harg2 arg4 harg4 arg8 x0 x1 x3 (rowsB arg7 harg7 xs0)) := by sl_kernel_rfl

theorem runB_5 (hc0 : ¬cond0_0 i) :
    (kernelRun0_B c i arg1 harg1 arg2 harg2 arg3 harg3 arg4 harg4 arg5 harg5 arg6 harg6 arg7 harg7 arg8 harg8 hc0 x0 x1 x2 x3 xs0).2.1 x5
      = L5 arg6.view (harg6.unread x5) (w8 arg1 harg1 arg2 harg2 arg4 harg4 arg8 x0 x1 x3 (rowsB arg7 harg7 xs0)) hps := by sl_kernel_rfl

theorem runA_4 (hc0 : cond0_0 i) :
    (kernelRun0_A c i arg1 harg1 arg2 harg2 arg3 harg3 arg4 harg4 arg5 harg5 arg6 harg6 arg7 harg7 arg8 harg8 hc0 x0 x1 x2 x3).1
      = L4 (w8 arg1 harg1 arg2 harg2 arg4 harg4 arg8 x0 x1 x3 (rowsA arg3 harg3 arg7 x2)) := by sl_kernel_rfl

theorem runA_5 (hc0 : cond0_0 i) :
    (kernelRun0_A c i arg1 harg1 arg2 harg2 arg3 harg3 arg4 harg4 arg5 harg5 arg6 harg6 arg7 harg7 arg8 harg8 hc0 x0 x1 x2 x3).2.1 x5
      = L5 arg6.view (harg6.unread x5) (w8 arg1 harg1 arg2 harg2 arg4 harg4 arg8 x0 x1 x3 (rowsA arg3 harg3 arg7 x2)) hps := by sl_kernel_rfl

theorem runA_7 (hc0 : cond0_0 i) :
    (kernelRun0_A c i arg1 harg1 arg2 harg2 arg3 harg3 arg4 harg4 arg5 harg5 arg6 harg6 arg7 harg7 arg8 harg8 hc0 x0 x1 x2 x3).2.2.1
      = L7' arg3 harg3 x2 := by sl_kernel_rfl

end

end Cert.KernelIdeal.Hand

end
-- ==== Proof.Leave.lean ====
module

public import proofs.«01_k».proof.Proof.Closed
public import Idealize.ShloMosaic.Lib.Pointwise
public import Idealize.ShloMosaic.Lib.WholeRead
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the stores leave -/

/-- The transposed rotation. -/
def t7 (x2 : Vec F S1536x1536 .bf16) : Vec F S1536x1536 .bf16 := fun y => x2 (ix2 (y 1) (y 0))

/-- The rotated rows of all heads and chunks, from the input blocks and the transposed rotation. -/
def W8 (x0 : Vec F S1x1536x256 .i8) (x1 : Vec F S1x1x256 .f32) (x3 : Vec F S1x128x128 .bf16) (T : Vec F S1536x1536 .bf16) : Vec F S2x1536x128 .f32 :=
  View.canon (Val := Elt F) (s := S2x1536x128) (e := .f32) (L8 x0 x1 x3 fun k x => T ((rowsRect k).idx x))

/-- The even or the odd rows of one head's group. -/
def half (w : Vec F S2x1536x128 .f32) (p : Fin 2 × Fin 12) (q : Fin 2) : Vec F S1x64x128 .f32 := fun j => w ((boxRect p q).idx j)

/-- The block of codes. -/
def C4 (w : Vec F S2x1536x128 .f32) : Vec F S1x768x256 .i8 := View.canon (Val := Elt F) (s := S1x768x256) (e := .i8) (L4 (half w))

/-- The head and the group of an entry of the block of scales. -/
def hg5 (y : S1x12x256.Idx) : Fin 2 × Fin 12 := (⟨(y 2).val / 128, by have : (y 2).val < 256 := (y 2).isLt; omega⟩, y 1)

/-- The block of scales. -/
def S5 (w : Vec F S2x1536x128 .f32) : Vec F S1x12x256 .bf16 := fun y =>
  scalePay (half w (hg5 y) 0) (half w (hg5 y) 1) (ix3 0 0 ⟨(y 2).val % 128, Nat.mod_lt _ (by decide)⟩)

/-! ## The stores fill their buffers -/

theorem cover4 (w : Fin 2 × Fin 12 → Fin 2 → Vec F S1x64x128 .f32) (y : S1x768x256.Idx) : ∃ p ∈ L4 w, y ∈ p.1.set := by
  have h0 : (y 0).val < 1 := (y 0).isLt
  have h1 : (y 1).val < 768 := (y 1).isLt
  have h2 : (y 2).val < 256 := (y 2).isLt
  suffices h : y ∈ (codeRect (⟨(y 2).val / 128, by omega⟩, ⟨(y 1).val / 64, by omega⟩)).set from
    ⟨_, List.mem_map.mpr ⟨_, mem_hgs _, rfl⟩, h⟩
  refine Rect.mem_set_unit.mpr fun a => ?_
  match a with
  | ⟨0, _⟩ => exact ⟨Nat.zero_le _, by show (y 0).val < 0 + 1; omega⟩
  | ⟨1, _⟩ => exact ⟨by show 64 * ((y 1).val / 64) ≤ (y 1).val; omega, by show (y 1).val < 64 * ((y 1).val / 64) + 64; omega⟩
  | ⟨2, _⟩ => exact ⟨by show 128 * ((y 2).val / 128) ≤ (y 2).val; omega, by show (y 2).val < 128 * ((y 2).val / 128) + 128; omega⟩

theorem cover7 (x : Fin 6 × Fin 6 → Vec F S256x256 .bf16) (y : S1536x1536.Idx) : ∃ p ∈ L7 x, y ∈ p.1.set := by
  have h0 : (y 0).val < 1536 := (y 0).isLt
  have h1 : (y 1).val < 1536 := (y 1).isLt
  suffices h : y ∈ (trRect (⟨(y 0).val / 256, by omega⟩, ⟨(y 1).val / 256, by omega⟩)).set from
    ⟨_, List.mem_map.mpr ⟨_, mem_ijs _, rfl⟩, h⟩
  refine Rect.mem_set_unit.mpr fun a => ?_
  match a with
  | ⟨0, _⟩ => exact ⟨by show 256 * ((y 0).val / 256) ≤ (y 0).val; omega, by show (y 0).val < 256 * ((y 0).val / 256) + 256; omega⟩
  | ⟨1, _⟩ => exact ⟨by show 256 * ((y 1).val / 256) ≤ (y 1).val; omega, by show (y 1).val < 256 * ((y 1).val / 256) + 256; omega⟩

/-- A transposed block of the rotation, read at an index. -/
theorem pay1_apply (x : Vec F S256x256 .bf16) (a b : Fin 256) : k0_pay1 x (ix2 a b) = x (ix2 b a) := by
  pointwise [k0_pay1]

/-- The stored blocks of the transposed rotation make up the transposed rotation. -/
theorem canon7 (x2 : Vec F S1536x1536 .bf16) (y : S1536x1536.Idx) :
    View.canon (Val := Elt F) (s := S1536x1536) (e := .bf16) (L7 fun p x => x2 ((trRect p).idx x)) y = t7 x2 y := by
  refine View.canon_apply_of_pieces (t7 x2) _ (fun p hp x => ?_) y (cover7 _ y)
  obtain ⟨q, -, rfl⟩ := List.mem_map.mp hp
  obtain ⟨a, b, rfl⟩ : ∃ a b : Fin 256, x = ix2 a b := ⟨x 0, x 1, eq_ix2 x⟩
  refine (pay1_apply (fun x => x2 ((trRect (q.2, q.1)).idx x)) a b).trans (congrArg x2 (funext fun d => Fin.ext ?_))
  match d with
  | ⟨0, _⟩ => rfl
  | ⟨1, _⟩ => rfl

/-- A load of a whole buffer reads the buffer. -/
theorem idx_zero3 {n0 n1 n2 : ℕ} {X : EltTy} (v : (⟨3, ![n0, n1, n2]⟩ : Shape).Idx → Elt F X) (inb : ∀ a, (![0, 0, 0] : Fin 3 → Nat) a + (⟨3, ![n0, n1, n2]⟩ : Shape).size a ≤ (⟨3, ![n0, n1, n2]⟩ : Shape).size a) :
    (fun j => v ((Rect.unit (s := ⟨3, ![n0, n1, n2]⟩) ![0, 0, 0] (⟨3, ![n0, n1, n2]⟩ : Shape).size inb).idx j)) = v := by
  funext j
  refine congrArg v (funext fun d => Fin.ext ?_)
  match d with
  | ⟨0, _⟩ => exact (Nat.zero_add _).trans (Nat.one_mul _)
  | ⟨1, _⟩ => exact (Nat.zero_add _).trans (Nat.one_mul _)
  | ⟨2, _⟩ => exact (Nat.zero_add _).trans (Nat.one_mul _)

section
variable (arg1 : Memref sig .tc .vmem S1x1536x256 .i8) (harg1 : arg1.IsWhole) (arg2 : Memref sig .tc .vmem S1x1x256 .f32) (harg2 : arg2.IsWhole) (arg3 : Memref sig .tc .vmem S1536x1536 .bf16) (harg3 : arg3.IsWhole) (arg4 : Memref sig .tc .vmem S1x128x128 .bf16) (harg4 : arg4.IsWhole) (arg6 : Memref sig .tc .vmem S1x12x256 .bf16) (harg6 : arg6.IsWhole) (arg7 : Memref sig .tc .vmem S1536x1536 .bf16) (harg7 : arg7.IsWhole) (arg8 : Memref sig .tc .vmem S2x1536x128 .f32)
    (x0 : Vec F S1x1536x256 .i8) (x1 : Vec F S1x1x256 .f32) (x2 : Vec F S1536x1536 .bf16) (x3 : Vec F S1x128x128 .bf16) (xs0 : Vec F S1536x1536 .bf16)

theorem rowsB_eq : rowsB arg7 harg7 xs0 = fun k x => xs0 ((rowsRect k).idx x) :=
  funext fun k => funext fun x => harg7.readAt_unread xs0 (rowsRect k).toLoadRect x

theorem L7'_eq : L7' arg3 harg3 x2 = L7 fun p x => x2 ((trRect p).idx x) :=
  congrArg L7 (funext fun p => funext fun x => harg3.readAt_unread x2 (trRect p).toLoadRect x)

theorem rowsA_eq : rowsA arg3 harg3 arg7 x2 = fun k x => t7 x2 ((rowsRect k).idx x) := by
  funext k x
  unfold rowsA
  rw [View.readCov_eq_canon', L7'_eq]
  exact canon7 x2 _

theorem w8_eq (T : Vec F S1536x1536 .bf16) :
    w8 arg1 harg1 arg2 harg2 arg4 harg4 arg8 x0 x1 x3 (fun k x => T ((rowsRect k).idx x)) = half (W8 x0 x1 x3 T) := by
  funext p q j
  unfold w8 L8'
  rw [View.readCov_eq_canon',
    show arg1.view.readAt (Elt F) _ (harg1.unread x0) = x0 from (funext fun j => harg1.readAt_unread x0 _ j).trans (idx_zero3 x0 _),
    show arg2.view.readAt (Elt F) _ (harg2.unread x1) = x1 from (funext fun j => harg2.readAt_unread x1 _ j).trans (idx_zero3 x1 _),
    show arg4.view.readAt (Elt F) _ (harg4.unread x3) = x3 from (funext fun j => harg4.readAt_unread x3 _ j).trans (idx_zero3 x3 _)]
  rfl

/-- Two rows of scales put one after the other into the two rows they share words with are the scales there. -/
theorem pair_eq (w : Vec F S2x1536x128 .f32) (x : S1x2x128.Idx) (p : Fin 2 × Fin 6) (X : Vec F S1x2x128 .bf16) :
    updateSlice (updateSlice X (scalePay (half w (p.1, grp p.2 0) 0) (half w (p.1, grp p.2 0) 1)) ![0, 0, 0] slices_S1x2x128_S1x1x128_0_0_0)
      (scalePay (half w (p.1, grp p.2 1) 0) (half w (p.1, grp p.2 1) 1)) ![0, 1, 0] slices_S1x2x128_S1x1x128_0_1_0 x = S5 w ((pairRect p).emb x) := by
  obtain ⟨a, b, d, rfl⟩ : ∃ (a : Fin 1) (b : Fin 2) (d : Fin 128), x = ix3 a b d := ⟨x 0, x 1, x 2, eq_ix3 x⟩
  obtain ⟨ph, pg⟩ := p
  have e : hg5 ((pairRect (ph, pg)).emb (ix3 a b d)) = (ph, grp pg b) := by
    have := d.isLt
    refine Prod.ext (Fin.ext ?_) (Fin.ext ?_)
    · show (128 * ph.val + 1 * d.val) / 128 = ph.val
      omega
    · show 2 * pg.val + 1 * b.val = 2 * pg.val + b.val
      omega
  have e' : (⟨(((pairRect (ph, pg)).emb (ix3 a b d)) 2).val % 128, Nat.mod_lt _ (by decide)⟩ : Fin 128) = d := by
    have := d.isLt
    refine Fin.ext ?_
    show (128 * ph.val + 1 * d.val) % 128 = d.val
    omega
  unfold S5
  rw [e, e']
  obtain rfl : a = 0 := Subsingleton.elim _ _
  match b with
  | 0 => pointwise; try rfl
  | 1 => pointwise; try rfl

/-- Two stores of one rectangle change nothing off it. -/
theorem read_miss2 (v : View sig .tc .vmem S1x12x256 .bf16) (f : v.ty.Contents (Elt F)) (r : Rect S1x12x256) (a b : r.shape.Idx → Elt F .bf16)
    (L : List (View.Piece (Elt F) S1x12x256 .bf16)) (y : S1x12x256.Idx) (hy : y ∉ r.set) :
    v.read (Elt F) (v.writes (Elt F) f (⟨r, a⟩ :: ⟨r, b⟩ :: L)) y = v.read (Elt F) (v.writes (Elt F) f L) y :=
  (View.read_writes_cons_miss v f ⟨r, a⟩ (⟨r, b⟩ :: L) y hy).trans (View.read_writes_cons_miss v f ⟨r, b⟩ L y hy)

/-- The stores of the scales leave the scales, wherever they stored, whatever the buffer held. -/
theorem read5 (v : View sig .tc .vmem S1x12x256 .bf16) (f : v.ty.Contents (Elt F)) (w : Vec F S2x1536x128 .f32) :
    ∀ (l : List (Fin 2 × Fin 6)) (y : S1x12x256.Idx), (∃ p ∈ l, y ∈ (pairRect p).set) →
      v.read (Elt F) (v.writes (Elt F) f (L5 v f (half w) l)) y = S5 w y
  | [], _, h => by obtain ⟨_, hm, _⟩ := h; exact absurd hm List.not_mem_nil
  | p :: l, y, h => by
    unfold L5
    dsimp only
    by_cases hy : y ∈ (pairRect p).set
    · obtain ⟨x, rfl⟩ : ∃ x, (pairRect p).emb x = y := (pairRect p).exists_idx_of_mem hy
      rw [View.read_writes_cons_emb, View.readCov_cons_toLoadRect]
      exact pair_eq w x p _
    · refine (read_miss2 v f _ _ _ _ y hy).trans (read5 v f w l y ?_)
      obtain ⟨q, hq, hyq⟩ := h
      rcases List.mem_cons.mp hq with rfl | hq'
      · exact absurd hyq hy
      · exact ⟨q, hq', hyq⟩

theorem cover5 (y : S1x12x256.Idx) : ∃ p ∈ hps, y ∈ (pairRect p).set := by
  have h0 : (y 0).val < 1 := (y 0).isLt
  have h1 : (y 1).val < 12 := (y 1).isLt
  have h2 : (y 2).val < 256 := (y 2).isLt
  refine ⟨(⟨(y 2).val / 128, by omega⟩, ⟨(y 1).val / 2, by omega⟩), mem_hps _, Rect.mem_set_unit.mpr fun a => ?_⟩
  match a with
  | ⟨0, _⟩ => exact ⟨Nat.zero_le _, by show (y 0).val < 0 + 1; omega⟩
  | ⟨1, _⟩ => exact ⟨by show 2 * ((y 1).val / 2) ≤ (y 1).val; omega, by show (y 1).val < 2 * ((y 1).val / 2) + 2; omega⟩
  | ⟨2, _⟩ => exact ⟨by show 128 * ((y 2).val / 128) ≤ (y 2).val; omega, by show (y 2).val < 128 * ((y 2).val / 128) + 128; omega⟩

end

end Cert.KernelIdeal.Hand

end
-- ==== Proof.Body.lean ====
module

public import proofs.«01_k».proof.Proof.Leave
public import Idealize.ShloMosaic.Lib.Pointwise
public import Idealize.ShloMosaic.Lib.WholeRead
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two cases -/

/-- The body at a point where the rotation is first transposed into its buffer: the inputs' buffers as they were, the codes and the scales in the outputs' buffers, the transposed rotation in its own. -/
theorem body_A (c : Dev nD) (i : grid0.Coords) (arg1 : Memref sig .tc .vmem S1x1536x256 .i8) (harg1 : arg1.IsWhole) (arg2 : Memref sig .tc .vmem S1x1x256 .f32) (harg2 : arg2.IsWhole) (arg3 : Memref sig .tc .vmem S1536x1536 .bf16) (harg3 : arg3.IsWhole) (arg4 : Memref sig .tc .vmem S1x128x128 .bf16) (harg4 : arg4.IsWhole) (arg5 : Memref sig .tc .vmem S1x768x256 .i8) (harg5 : arg5.IsWhole) (arg6 : Memref sig .tc .vmem S1x12x256 .bf16) (harg6 : arg6.IsWhole) (arg7 : Memref sig .tc .vmem S1536x1536 .bf16) (harg7 : arg7.IsWhole) (arg8 : Memref sig .tc .vmem S2x1536x128 .f32) (harg8 : arg8.IsWhole) (hc0 : cond0_0 i)
    (x0 : Vec F S1x1536x256 .i8) (x1 : Vec F S1x1x256 .f32) (x2 : Vec F S1536x1536 .bf16) (x3 : Vec F S1x128x128 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (C4 (W8 x0 x1 x3 (t7 x2))) ∗ owns (c : Thread nD τ) arg6 fullShare (S5 (W8 x0 x1 x3 (t7 x2))) ∗ owns (c : Thread nD τ) arg7 fullShare (t7 x2) ∗ (∃ d, owns (c : Thread nD τ) arg8 fullShare d)) -∗ K ⟨⟩))
      ⊢ wp frame (wpE (defs₀ (F := F)) Variants.none c none) E (cc0_spinquant_fold i arg1 harg1 arg2 harg2 arg3 harg3 arg4 harg4 arg5 harg5 arg6 harg6 arg7 harg7 arg8 harg8) K := by
  have ew : w8 arg1 harg1 arg2 harg2 arg4 harg4 arg8 x0 x1 x3 (rowsA arg3 harg3 arg7 x2) = half (W8 x0 x1 x3 (t7 x2)) :=
    (congrArg (w8 arg1 harg1 arg2 harg2 arg4 harg4 arg8 x0 x1 x3) (rowsA_eq arg3 harg3 arg7 x2)).trans (w8_eq arg1 harg1 arg2 harg2 arg4 harg4 arg8 x0 x1 x3 (t7 x2))
  iintro ⟨H0, H1, H2, H3, H4, ⟨%x5, H5⟩, HS0, HS1, Hk⟩
  iapply ((kernelRun0_A c i arg1 harg1 arg2 harg2 arg3 harg3 arg4 harg4 arg5 harg5 arg6 harg6 arg7 harg7 arg8 harg8 hc0 x0 x1 x2 x3).2.2.2.2 x5 E K)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  iintro ⟨H0, H1, H2, H3, ⟨%e4, H4⟩, H5, ⟨%es0, HS0⟩, ⟨%fT1, HS1⟩⟩
  iapply Hk
  isplitl [H0]; · iexact H0
  isplitl [H1]; · iexact H1
  isplitl [H2]; · iexact H2
  isplitl [H3]; · iexact H3
  isplitl [H4]
  · unfold owns; iexists _; isplitr
    swap; · iexact H4
    ipureintro
    rw [runA_4, ew]
    exact View.read_writes_eq_canon _ _ _ (cover4 _)
  isplitl [H5]
  · unfold owns; iexists _; isplitr
    swap; · iexact H5
    ipureintro
    rw [runA_5, ew]
    exact funext fun y => read5 _ _ _ hps y (cover5 y)
  isplitl [HS0]
  · unfold owns; iexists _; isplitr
    swap; · iexact HS0
    ipureintro
    rw [runA_7, L7'_eq, View.read_writes_eq_canon _ _ _ (cover7 _)]
    exact funext (canon7 x2)
  iexists _; unfold owns; iexists _; isplitr
  swap; · iexact HS1
  ipureintro; rfl

/-- The body at a point where the transposed rotation is found in its buffer: the inputs' buffers as they were, the codes and the scales in the outputs' buffers, the transposed rotation in its own. -/
theorem body_B (c : Dev nD) (i : grid0.Coords) (arg1 : Memref sig .tc .vmem S1x1536x256 .i8) (harg1 : arg1.IsWhole) (arg2 : Memref sig .tc .vmem S1x1x256 .f32) (harg2 : arg2.IsWhole) (arg3 : Memref sig .tc .vmem S1536x1536 .bf16) (harg3 : arg3.IsWhole) (arg4 : Memref sig .tc .vmem S1x128x128 .bf16) (harg4 : arg4.IsWhole) (arg5 : Memref sig .tc .vmem S1x768x256 .i8) (harg5 : arg5.IsWhole) (arg6 : Memref sig .tc .vmem S1x12x256 .bf16) (harg6 : arg6.IsWhole) (arg7 : Memref sig .tc .vmem S1536x1536 .bf16) (harg7 : arg7.IsWhole) (arg8 : Memref sig .tc .vmem S2x1536x128 .f32) (harg8 : arg8.IsWhole) (hc0 : ¬cond0_0 i)
    (x0 : Vec F S1x1536x256 .i8) (x1 : Vec F S1x1x256 .f32) (x2 : Vec F S1536x1536 .bf16) (x3 : Vec F S1x128x128 .bf16) (xs0 : Vec F S1536x1536 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare xs0 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (C4 (W8 x0 x1 x3 xs0)) ∗ owns (c : Thread nD τ) arg6 fullShare (S5 (W8 x0 x1 x3 xs0)) ∗ owns (c : Thread nD τ) arg7 fullShare xs0 ∗ (∃ d, owns (c : Thread nD τ) arg8 fullShare d)) -∗ K ⟨⟩))
      ⊢ wp frame (wpE (defs₀ (F := F)) Variants.none c none) E (cc0_spinquant_fold i arg1 harg1 arg2 harg2 arg3 harg3 arg4 harg4 arg5 harg5 arg6 harg6 arg7 harg7 arg8 harg8) K := by
  have ew : w8 arg1 harg1 arg2 harg2 arg4 harg4 arg8 x0 x1 x3 (rowsB arg7 harg7 xs0) = half (W8 x0 x1 x3 xs0) :=
    (congrArg (w8 arg1 harg1 arg2 harg2 arg4 harg4 arg8 x0 x1 x3) (rowsB_eq arg7 harg7 xs0)).trans (w8_eq arg1 harg1 arg2 harg2 arg4 harg4 arg8 x0 x1 x3 xs0)
  iintro ⟨H0, H1, H2, H3, H4, ⟨%x5, H5⟩, HS0, HS1, Hk⟩
  iapply ((kernelRun0_B c i arg1 harg1 arg2 harg2 arg3 harg3 arg4 harg4 arg5 harg5 arg6 harg6 arg7 harg7 arg8 harg8 hc0 x0 x1 x2 x3 xs0).2.2.2.2 x5 E K)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  iintro ⟨H0, H1, H2, H3, ⟨%e4, H4⟩, H5, HS0, ⟨%fT1, HS1⟩⟩
  iapply Hk
  isplitl [H0]; · iexact H0
  isplitl [H1]; · iexact H1
  isplitl [H2]; · iexact H2
  isplitl [H3]; · iexact H3
  isplitl [H4]
  · unfold owns; iexists _; isplitr
    swap; · iexact H4
    ipureintro
    rw [runB_4, ew]
    exact View.read_writes_eq_canon _ _ _ (cover4 _)
  isplitl [H5]
  · unfold owns; iexists _; isplitr
    swap; · iexact H5
    ipureintro
    rw [runB_5, ew]
    exact funext fun y => read5 _ _ _ hps y (cover5 y)
  isplitl [HS0]
  · iexact HS0
  iexists _; unfold owns; iexists _; isplitr
  swap; · iexact HS1
  ipureintro; rfl

end Cert.KernelIdeal.Hand

end
-- ==== Proof.HandFrame.lean ====
module

public import proofs.«01_k».proof.Proof.Body
public import Idealize.ShloMosaic.Lib.Pointwise
public import Idealize.ShloMosaic.Lib.WholeRead
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' index maps, and the rotation's block -/

theorem idx : ∀ t : Fin cfg0.N, win0_0.index t = ![t.val, 0, 0] ∧ win0_1.index t = ![t.val, 0, 0] ∧ win0_2.index t = ![0, 0]
    ∧ win0_3.index t = ![t.val, 0, 0] ∧ win0_4.index t = ![t.val, 0, 0] ∧ win0_5.index t = ![t.val, 0, 0] :=
  (by decide +kernel : ∀ t : Fin grid0.N, _)

/-- The rotation's block is the whole rotation, at every point. -/
theorem iblk2 (c : Dev nD) (t : Fin cfg0.N) : iblk m c 2 t = m ((c : Thread nD τ).loc main_arg2) := by blk_ext! [iblk, V, idx t]

/-- The rotated rows at a point. -/
def wAt (c : Dev nD) (t : Fin cfg0.N) : Vec F S2x1536x128 .f32 :=
  W8 (iblk m c 0 t) (iblk m c 1 t) (iblk m c 3 t) (t7 (m ((c : Thread nD τ).loc main_arg2)))

/-- The region invariant before a point: before the first one every scratch at anything, afterwards the transposed rotation in its buffer. -/
def PhiS (c : Dev nD) : (n : ℕ) → n ≤ cfg0.N → sProp 𝕄
  | 0, _ => Pipeline.ΦA spec0 c
  | n + 1, _ => iprop(iprop(owns (c : Thread nD τ) scM0_0 fullShare (t7 (m ((c : Thread nD τ).loc main_arg2))) ∗ (∃ d, owns (c : Thread nD τ) scM0_1 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (t7 (m ((c : Thread nD τ).loc main_arg2))) ∗ (∃ d, owns (c : Thread nD τ) scM0_1 fullShare d)) ∗ (∃ r, prngReg c r)) := rfl

theorem PhiS_pos (c : Dev nD) (n : ℕ) (h : n ≤ cfg0.N) (hz : n ≠ 0) :
    PhiS m c n h = iprop(iprop(owns (c : Thread nD τ) scM0_0 fullShare (t7 (m ((c : Thread nD τ).loc main_arg2))) ∗ (∃ d, owns (c : Thread nD τ) scM0_1 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => C4 (wAt m c t)
    | ⟨5, _⟩ => S5 (wAt m c t)
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = C4 (wAt m c t) := by dsimp only [dats]
theorem after0_5 (c : Dev nD) (t : Fin cfg0.N) : (dats m 0 c).after 5 t = S5 (wAt m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 1600000 in
/-- The body at any point: the inputs' buffers hold their blocks, the transposed rotation is stored at the first point and found at the others. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3, after0_4, after0_5]
  rw [show (dats m 0 c).Φ t.succ = PhiS m c (t.val + 1) t.isLt from rfl, PhiS_succ]
  have hN : t.val < 28 := lt_of_lt_of_eq t.isLt (show cfg0.N = 28 from N_0)
  unfold wAt
  by_cases h0 : t.val % 28 = 0
  · have hz : t.val = 0 := by omega
    rw [PhiS_castSucc m c t, PhiS_zero m c _ _ hz, PhiA0_eq]
    rw [← iblk2 m c t]
    iintro ⟨⟨⟨HS0, HS1⟩, Hg⟩, Ho, ⟨%d0, H0⟩, ⟨%d1, H1⟩, ⟨%d2, H2⟩, ⟨%d3, H3⟩, ⟨%d4, H4⟩, ⟨%d5, H5⟩⟩
    iapply (body_A c (grid0.coords t) _ _ _ _ _ _ _ _ _ _ _ _ _ _ _ _ ((hcond0_0 t).mpr h0) (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    isplitl [HS1]; · iexact HS1
    iintro ⟨H0, H1, H2, H3, H4, H5, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    iexact H5
  · have hz : t.val ≠ 0 := fun h => h0 (by rw [h])
    rw [PhiS_castSucc m c t, PhiS_pos m c _ _ hz]
    iintro ⟨⟨⟨HS0, HS1⟩, Hg⟩, Ho, ⟨%d0, H0⟩, ⟨%d1, H1⟩, ⟨%d2, H2⟩, ⟨%d3, H3⟩, ⟨%d4, H4⟩, ⟨%d5, H5⟩⟩
    iapply (body_B c (grid0.coords t) _ _ _ _ _ _ _ _ _ _ _ _ _ _ _ _ (fun h => h0 ((hcond0_0 t).mp h)) (iblk m c 0 t) (iblk m c 1 t) (iblk m c 2 t) (iblk m c 3 t) (t7 (m ((c : Thread nD τ).loc main_arg2))) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    isplitl [HS1]; · iexact HS1
    iintro ⟨H0, H1, H2, H3, H4, H5, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 28 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Hand

end
-- ==== Proof.KFrame.lean ====
module

public import proofs.«01_k».proof.Defs
public import proofs.«01_k».proof.Proof.Gen.Kernel.Frame
public import proofs.«01_k».proof.Proof.HandFrame

public import Idealize.ShloMosaic.Lib.Pipeline.ValueKit

@[expose] public section

noncomputable section

namespace Cert.Kernel.Hand

open Cert.Kernel Cert.Kernel.Gen
open Idealize.ShloMosaic Idealize.ShloMosaic.TcCoe
open Idealize.SL.Sem Idealize.ShloMosaic.Tactic

variable (m : (ℓ : Loc nD τ sig) → Buf (Elt Bits) ℓ) (ρ : Dev nD → PrngReg)

/-- The frame at the bits: the module as printed is, up to its name, the module the other frame is about. -/
theorem frame : θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Eq.mp (by sl_kernel_rfl) (Cert.KernelIdeal.Hand.frame (F := Bits) m ρ)

end Cert.Kernel.Hand

end
-- ==== Proof.Core.lean ====
module

public import Idealize.ShloMosaic.Lib.Pointwise
public import Idealize.ShloMosaic.Lib.IdealHost

@[expose] public section

noncomputable section

namespace Cert.Fold

open Idealize.ShloMosaic

/-! ## Infinite sums -/

/-- One of the two infinities. -/
def Inf (x : EReal) : Prop := x = ⊤ ∨ x = ⊥

theorem inf_add (x y : EReal) : Inf (x + y) ↔ Inf x ∨ Inf y := by
  unfold Inf
  induction x using EReal.rec <;> induction y using EReal.rec <;> simp [← EReal.coe_add]

theorem inf_zero : ¬Inf 0 := by simp [Inf]

theorem inf_sum {ι : Type*} (s : Finset ι) (f : ι → EReal) : Inf (∑ i ∈ s, f i) ↔ ∃ i ∈ s, Inf (f i) := by
  classical
  induction s using Finset.induction_on with
  | empty => simpa using inf_zero
  | insert a s ha ih => rw [Finset.sum_insert ha, inf_add, ih]; simp

theorem inf_mul (x y : EReal) (hx : x ≠ 0) (hy : Inf y) : Inf (x * y) := by
  unfold Inf at *
  rcases hy with rfl | rfl
  · rcases lt_or_gt_of_ne hx with h | h
    · exact .inr (EReal.mul_top_of_neg h)
    · exact .inl (EReal.mul_top_of_pos h)
  · rcases lt_or_gt_of_ne hx with h | h
    · exact .inl (EReal.mul_bot_of_neg h)
    · exact .inr (EReal.mul_bot_of_pos h)

theorem sub_self_of (x : EReal) (h : ¬Inf x) : x - x = 0 := by
  unfold Inf at h
  push Not at h
  exact EReal.sub_self h.1 h.2

/-! ## Values that quantise alike -/

/-- Equal, or both infinite. -/
def Alike (x y : EReal) : Prop := x = y ∨ (Inf x ∧ Inf y)

/-- A sum of products with the parts of a three-way split quantises like the sum of the products. -/
theorem alike_split (a r : Fin 128 → EReal) :
    Alike (∑ d, r d * a d + ∑ d, r d * (a d - a d) + ∑ d, r d * (a d - a d - (a d - a d))) (∑ d, a d * r d) := by
  have hc : ∑ d, a d * r d = ∑ d, r d * a d := Finset.sum_congr rfl fun d _ => mul_comm _ _
  rw [hc]
  by_cases h : ∃ d, Inf (r d * a d)
  · obtain ⟨d, hd⟩ := h
    have hs : Inf (∑ d, r d * a d) := (inf_sum _ _).mpr ⟨d, Finset.mem_univ _, hd⟩
    exact .inr ⟨(inf_add _ _).mpr (.inl ((inf_add _ _).mpr (.inl hs))), hs⟩
  · have hz : ∀ d, r d * (a d - a d) = 0 ∧ r d * (a d - a d - (a d - a d)) = 0 := fun d => by
      by_cases ha : Inf (a d)
      · have : r d = 0 := by
          by_contra hr
          exact h ⟨d, inf_mul _ _ hr ha⟩
        rw [this, zero_mul, zero_mul]; exact ⟨rfl, rfl⟩
      · rw [sub_self_of _ ha]; simp
    refine .inl ?_
    rw [Finset.sum_congr rfl fun d _ => (hz d).1, Finset.sum_congr rfl fun d _ => (hz d).2]
    simp

/-- The magnitude. -/
abbrev mag (x : EReal) : EReal := FloatOps.absf (F := Ideal) (φ := .f32) x

theorem mag_inf (x : EReal) (h : Inf x) : mag x = ⊤ := by
  show max x (-x) = ⊤
  rcases h with rfl | rfl <;> simp

theorem mag_alike (x y : EReal) (h : Alike x y) : mag x = mag y := by
  rcases h with rfl | ⟨hx, hy⟩
  · rfl
  · rw [mag_inf x hx, mag_inf y hy]

/-! ## A group's scale and codes -/

/-- The largest magnitude of a group. -/
def top (w : Fin 128 → EReal) : EReal := Finset.fold max (Ideal.ofBits .f32 0xFF800000#32) (fun r => mag (w r)) Finset.univ

/-- The scale of a group of a largest magnitude. -/
def scl (a : EReal) : EReal := if a = 0 then 1 else Ideal.div a (Ideal.ofBits .f32 0x40E00000#32)

/-- The code of an entry at a scale. -/
def cod (x s : EReal) : BitVec 32 :=
  FloatOps.fptosi (F := Ideal) (φ := .f32) 32 (min (Ideal.ofBits .f32 0x40E00000#32) (max (Ideal.ofBits .f32 0xC0E00000#32)
    (Ideal.liftRound Ideal.roundHalfEven (Ideal.div x s))))

/-- Two codes in a byte. -/
def pack (x y : BitVec 32) : BitVec 8 :=
  BitVec.setWidth 8 (IntOp.ori (IntOp.andi x 15#32) (IntOp.shli .host (IntOp.andi y 15#32) 4#32))

/-- The maximum over the even and the odd rows is the maximum over the rows. -/
theorem top_halves (w : Fin 128 → EReal) :
    Finset.fold max (Ideal.ofBits .f32 0xFF800000#32) (fun r : Fin 64 => max (mag (w ⟨2 * r.val, by omega⟩)) (mag (w ⟨2 * r.val + 1, by omega⟩))) Finset.univ = top w := by
  refine eq_of_forall_ge_iff fun c => ?_
  unfold top
  rw [Finset.fold_max_le, Finset.fold_max_le]
  refine and_congr_right fun _ => ⟨fun h r _ => ?_, fun h r _ => max_le (h _ (Finset.mem_univ _)) (h _ (Finset.mem_univ _))⟩
  have h' := max_le_iff.mp (h ⟨r.val / 2, by omega⟩ (Finset.mem_univ _))
  rcases Nat.mod_two_eq_zero_or_one r.val with e | e
  · exact (congrArg (fun r => mag (w r)) (Fin.ext (by show r.val = 2 * (r.val / 2); omega))).trans_le h'.1
  · exact (congrArg (fun r => mag (w r)) (Fin.ext (by show r.val = 2 * (r.val / 2) + 1; omega))).trans_le h'.2

theorem top_alike (w w' : Fin 128 → EReal) (h : ∀ r, Alike (w r) (w' r)) : top w = top w' := by
  unfold top
  exact congrArg (fun f => Finset.fold max (Ideal.ofBits .f32 0xFF800000#32) f Finset.univ) (funext fun r => mag_alike _ _ (h r))

theorem top_inf (w : Fin 128 → EReal) (r : Fin 128) (h : Inf (w r)) : top w = ⊤ := by
  refine top_le_iff.mp ?_
  unfold top
  exact (Finset.le_fold_max _).mpr (.inr ⟨r, Finset.mem_univ _, (mag_inf _ h).ge⟩)

theorem seven : Ideal.ofBits .f32 0x40E00000#32 = ((7 : ℝ) : EReal) := by
  simp [Ideal.ofBits, Ideal.ieee, -EReal.coe_mul]
  norm_num

theorem scl_top : scl ⊤ = ⊤ := by
  unfold scl
  rw [if_neg (by simp), seven, Ideal.div_coe (by norm_num)]
  exact EReal.top_mul_coe_of_pos (by norm_num)

theorem div_top (x : EReal) : Ideal.div x ⊤ = 0 := by
  unfold Ideal.div
  simp

/-- Entries that quantise alike have the same code, at the scale of their group. -/
theorem cod_alike (w w' : Fin 128 → EReal) (h : ∀ r, Alike (w r) (w' r)) (r : Fin 128) :
    cod (w r) (scl (top w)) = cod (w' r) (scl (top w')) := by
  rw [← top_alike w w' h]
  rcases h r with e | ⟨hx, -⟩
  · rw [e]
  · unfold cod
    rw [top_inf w r hx, scl_top, div_top, div_top]

end Cert.Fold

end
-- ==== Proof.Pure.lean ====
module

public import proofs.«01_k».proof.Proof.Leave
public import proofs.«01_k».proof.Proof.Core
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe
open Idealize.SL.Sem
open Cert.Fold

/-! ## The payloads, read at an index -/

theorem shli_units (x : BitVec 32) : IntOp.shli .vector x 4#32 = IntOp.shli .host x 4#32 := by
  simp [IntOp.shli]

/-- One entry of the scaled product with the rotation. -/
def ka (x0 : Vec Ideal S1x1536x256 .i8) (x1 : FVec Ideal S1x1x256 .f32) (T : Fin 1536 → EReal) (c : Fin 256) : EReal :=
  (∑ k : Fin 1536, T k * (FloatOps.sitofp (F := Ideal) .bf16 (x0 (ix3 0 k c)) : EReal)) * x1 (ix3 0 0 c)

/-- One entry of the rotated rows: row's rotation `T`, head `h`, column `e`. -/
def kw (x0 : Vec Ideal S1x1536x256 .i8) (x1 : FVec Ideal S1x1x256 .f32) (x3 : FVec Ideal S1x128x128 .bf16) (T : Fin 1536 → EReal) (h : Fin 2) (e : Fin 128) : EReal :=
  ∑ d : Fin 128, x3 (ix3 0 d e) * ka x0 x1 T ⟨128 * h.val + d.val, by omega⟩
    + ∑ d : Fin 128, x3 (ix3 0 d e) * (ka x0 x1 T ⟨128 * h.val + d.val, by omega⟩ - ka x0 x1 T ⟨128 * h.val + d.val, by omega⟩)
    + ∑ d : Fin 128, x3 (ix3 0 d e) * (ka x0 x1 T ⟨128 * h.val + d.val, by omega⟩ - ka x0 x1 T ⟨128 * h.val + d.val, by omega⟩
        - (ka x0 x1 T ⟨128 * h.val + d.val, by omega⟩ - ka x0 x1 T ⟨128 * h.val + d.val, by omega⟩))

theorem head_apply (h : Fin 2) (x0 : Vec Ideal S1x1536x256 .i8) (x1 : FVec Ideal S1x1x256 .f32) (x3 : FVec Ideal S1x128x128 .bf16) (T : FVec Ideal S256x1536 .bf16) (r : Fin 256) (e : Fin 128) :
    headPay (F := Ideal) h x0 x1 x3 T (ix3 0 r e) = kw x0 x1 x3 (fun k => T (ix2 r k)) h e := by
  pointwise [headPay, k0_pay37, k0_pay38, k0_pay39, k0_pay40, k0_pay41, k0_pay42, k0_pay43, k0_pay44, k0_pay45, kw, ka]

theorem scale_apply (a b : FVec Ideal S1x64x128 .f32) (l : Fin 128) :
    scalePay (F := Ideal) a b (ix3 0 0 l)
      = scl (Finset.fold max (Ideal.ofBits .f32 0xFF800000#32) (fun r : Fin 64 => max (mag (a (ix3 0 r l))) (mag (b (ix3 0 r l)))) Finset.univ) := by
  pointwise [scalePay, k0_pay86, k0_pay87, k0_pay88, k0_pay89, scl]

theorem code_apply (a b : FVec Ideal S1x64x128 .f32) (r : Fin 64) (l : Fin 128) :
    codePay (F := Ideal) a b (ix3 0 r l)
      = pack (cod (a (ix3 0 r l)) (scl (Finset.fold max (Ideal.ofBits .f32 0xFF800000#32) (fun r : Fin 64 => max (mag (a (ix3 0 r l))) (mag (b (ix3 0 r l)))) Finset.univ)))
          (cod (b (ix3 0 r l)) (scl (Finset.fold max (Ideal.ofBits .f32 0xFF800000#32) (fun r : Fin 64 => max (mag (a (ix3 0 r l))) (mag (b (ix3 0 r l)))) Finset.univ))) := by
  pointwise [codePay, k0_pay86, k0_pay87, k0_pay88, k0_pay89, k0_pay90, k0_pay91, k0_pay92, k0_pay93, pack, cod, scl, shli_units]

/-! ## What a point leaves, read at an index -/

theorem cover8 (x0 : Vec Ideal S1x1536x256 .i8) (x1 : Vec Ideal S1x1x256 .f32) (x3 : Vec Ideal S1x128x128 .bf16) (rows : Fin 6 → Vec Ideal S256x1536 .bf16) (y : S2x1536x128.Idx) :
    ∃ p ∈ L8 (F := Ideal) x0 x1 x3 rows, y ∈ p.1.set := by
  have h0 : (y 0).val < 2 := (y 0).isLt
  have h1 : (y 1).val < 1536 := (y 1).isLt
  have h2 : (y 2).val < 128 := (y 2).isLt
  suffices h : y ∈ (rotRect (⟨(y 0).val, h0⟩, ⟨(y 1).val / 256, by omega⟩)).set from
    ⟨_, List.mem_map.mpr ⟨_, mem_hks _, rfl⟩, h⟩
  refine Rect.mem_set_unit.mpr fun a => ?_
  match a with
  | ⟨0, _⟩ => exact ⟨le_refl _, by show (y 0).val < (y 0).val + 1; omega⟩
  | ⟨1, _⟩ => exact ⟨by show 256 * ((y 1).val / 256) ≤ (y 1).val; omega, by show (y 1).val < 256 * ((y 1).val / 256) + 256; omega⟩
  | ⟨2, _⟩ => exact ⟨Nat.zero_le _, by show (y 2).val < 0 + 128; omega⟩

/-- The rotated rows at an index. -/
theorem W8_apply (x0 : Vec Ideal S1x1536x256 .i8) (x1 : FVec Ideal S1x1x256 .f32) (x3 : FVec Ideal S1x128x128 .bf16) (T : FVec Ideal S1536x1536 .bf16) (h : Fin 2) (i : Fin 1536) (e : Fin 128) :
    W8 (F := Ideal) x0 x1 x3 T (ix3 h i e) = kw x0 x1 x3 (fun k => T (ix2 i k)) h e := by
  unfold W8
  refine View.canon_apply_of_pieces (Val := Elt Ideal) (S := S2x1536x128) (e := .f32)
    (fun y : S2x1536x128.Idx => kw x0 x1 x3 (fun k => T (ix2 (y 1) k)) (y 0) (y 2)) _ (fun p hp x => ?_) (ix3 h i e) (cover8 _ _ _ _ _)
  obtain ⟨⟨ph, pk⟩, -, rfl⟩ := List.mem_map.mp hp
  obtain ⟨a, b, d, rfl⟩ : ∃ (a : Fin 1) (b : Fin 256) (d : Fin 128), x = ix3 a b d := ⟨x 0, x 1, x 2, eq_ix3 x⟩
  obtain rfl : a = 0 := Subsingleton.elim _ _
  refine (head_apply ph x0 x1 x3 _ b d).trans ?_
  have e1 : ((rotRect (ph, pk)).emb (ix3 0 b d)) 0 = ph := Fin.ext (by show ph.val + 1 * 0 = ph.val; omega)
  have e2 : ((rotRect (ph, pk)).emb (ix3 0 b d)) 2 = d := Fin.ext (by show 0 + 1 * d.val = d.val; omega)
  have e3 : (fun k : Fin 1536 => T ((rowsRect pk).idx (ix2 b k))) = fun k => T (ix2 (((rotRect (ph, pk)).emb (ix3 0 b d)) 1) k) :=
    funext fun k => congrArg T (funext fun q => Fin.ext (by
      match q with
      | ⟨0, _⟩ => rfl
      | ⟨1, _⟩ => (show 0 + 1 * k.val = k.val; omega)))
  exact (congrArg (fun t => kw x0 x1 x3 t ph d) e3).trans (congrArg₂ (fun p q => kw x0 x1 x3 (fun k => T (ix2 (((rotRect (ph, pk)).emb (ix3 0 b d)) 1) k)) p q) e1.symm e2.symm)

/-- A group's rows, its even and its odd ones. -/
theorem half_apply (w : FVec Ideal S2x1536x128 .f32) (h : Fin 2) (g : Fin 12) (q : Fin 2) (r : Fin 64) (l : Fin 128) :
    half (F := Ideal) w (h, g) q (ix3 0 r l) = w (ix3 h ⟨128 * g.val + (2 * r.val + q.val), by omega⟩ l) :=
  congrArg w (funext fun d => Fin.ext (by
    match d with
    | ⟨0, _⟩ => (show h.val + 1 * 0 = h.val; omega)
    | ⟨1, _⟩ => (show 128 * g.val + q.val + 2 * r.val = 128 * g.val + (2 * r.val + q.val); omega)
    | ⟨2, _⟩ => (show 0 + 1 * l.val = l.val; omega)))

/-- One column of one head's group. -/
def col (w : FVec Ideal S2x1536x128 .f32) (h : Fin 2) (g : Fin 12) (l : Fin 128) (r : Fin 128) : EReal := w (ix3 h ⟨128 * g.val + r.val, by omega⟩ l)

theorem half_top (w : FVec Ideal S2x1536x128 .f32) (h : Fin 2) (g : Fin 12) (l : Fin 128) :
    Finset.fold max (Ideal.ofBits .f32 0xFF800000#32) (fun r : Fin 64 => max (mag (half (F := Ideal) w (h, g) 0 (ix3 0 r l))) (mag (half (F := Ideal) w (h, g) 1 (ix3 0 r l)))) Finset.univ
      = top (col w h g l) := by
  refine Eq.trans ?_ (top_halves (col w h g l))
  refine congrArg (fun f => Finset.fold max (Ideal.ofBits .f32 0xFF800000#32) f Finset.univ) (funext fun r => ?_)
  exact congrArg₂ (fun x y => max (mag x) (mag y)) (half_apply w h g 0 r l) (half_apply w h g 1 r l)

/-- A scale. -/
theorem S5_apply (w : FVec Ideal S2x1536x128 .f32) (g : Fin 12) (c : Fin 256) :
    S5 (F := Ideal) w (ix3 0 g c) = scl (top (col w ⟨c.val / 128, by omega⟩ g ⟨c.val % 128, by omega⟩)) :=
  (scale_apply _ _ _).trans (congrArg scl (half_top w ⟨c.val / 128, by omega⟩ g ⟨c.val % 128, by omega⟩))

theorem code_col (w : FVec Ideal S2x1536x128 .f32) (h : Fin 2) (g : Fin 12) (r : Fin 64) (l : Fin 128) :
    codePay (F := Ideal) (half w (h, g) 0) (half w (h, g) 1) (ix3 0 r l)
      = pack (cod (col w h g l ⟨2 * r.val, by omega⟩) (scl (top (col w h g l)))) (cod (col w h g l ⟨2 * r.val + 1, by omega⟩) (scl (top (col w h g l)))) := by
  refine (code_apply _ _ _ _).trans ?_
  rw [half_top, half_apply, half_apply]
  rfl

theorem code_col' (w : FVec Ideal S2x1536x128 .f32) (h : Fin 2) (g : Fin 12) (r : Fin 64) (l : Fin 128) (g' : Fin 12) (r' : Fin 64) (hg : g' = g) (hr : r' = r) :
    codePay (F := Ideal) (half w (h, g') 0) (half w (h, g') 1) (ix3 0 r' l)
      = pack (cod (col w h g l ⟨2 * r.val, by omega⟩) (scl (top (col w h g l)))) (cod (col w h g l ⟨2 * r.val + 1, by omega⟩) (scl (top (col w h g l)))) := by
  subst hg hr
  exact code_col w h g' r' l

/-- A byte of codes. -/
theorem C4_apply (w : FVec Ideal S2x1536x128 .f32) (g : Fin 12) (r : Fin 64) (c : Fin 256) :
    C4 (F := Ideal) w (ix3 0 ⟨64 * g.val + r.val, by omega⟩ c)
      = pack (cod (col w ⟨c.val / 128, by omega⟩ g ⟨c.val % 128, by omega⟩ ⟨2 * r.val, by omega⟩) (scl (top (col w ⟨c.val / 128, by omega⟩ g ⟨c.val % 128, by omega⟩))))
          (cod (col w ⟨c.val / 128, by omega⟩ g ⟨c.val % 128, by omega⟩ ⟨2 * r.val + 1, by omega⟩) (scl (top (col w ⟨c.val / 128, by omega⟩ g ⟨c.val % 128, by omega⟩)))) := by
  unfold C4
  refine (View.canon_apply_of_pieces (Val := Elt Ideal) (S := S1x768x256) (e := .i8)
    (fun y : S1x768x256.Idx => codePay (F := Ideal) (half w (⟨(y 2).val / 128, by have : (y 2).val < 256 := (y 2).isLt; omega⟩, ⟨(y 1).val / 64, by have : (y 1).val < 768 := (y 1).isLt; omega⟩) 0)
      (half w (⟨(y 2).val / 128, by have : (y 2).val < 256 := (y 2).isLt; omega⟩, ⟨(y 1).val / 64, by have : (y 1).val < 768 := (y 1).isLt; omega⟩) 1)
      (ix3 0 ⟨(y 1).val % 64, Nat.mod_lt _ (by decide)⟩ ⟨(y 2).val % 128, Nat.mod_lt _ (by decide)⟩)) _ (fun p hp x => ?_) _ (cover4 _ _)).trans ?_
  · obtain ⟨⟨ph, pg⟩, -, rfl⟩ := List.mem_map.mp hp
    obtain ⟨a, b, d, rfl⟩ : ∃ (a : Fin 1) (b : Fin 64) (d : Fin 128), x = ix3 a b d := ⟨x 0, x 1, x 2, eq_ix3 x⟩
    obtain rfl : a = 0 := Subsingleton.elim _ _
    have hb := b.isLt; have hd := d.isLt
    have e1 : (((codeRect (ph, pg)).emb (ix3 0 b d)) 1).val = 64 * pg.val + b.val := by show 64 * pg.val + 1 * b.val = _; omega
    have e2 : (((codeRect (ph, pg)).emb (ix3 0 b d)) 2).val = 128 * ph.val + d.val := by show 128 * ph.val + 1 * d.val = _; omega
    have f1 : ∀ h, (⟨(((codeRect (ph, pg)).emb (ix3 0 b d)) 2).val / 128, h⟩ : Fin 2) = ph := fun _ => Fin.ext (by show _ / 128 = _; rw [e2]; omega)
    have f2 : ∀ h, (⟨(((codeRect (ph, pg)).emb (ix3 0 b d)) 1).val / 64, h⟩ : Fin 12) = pg := fun _ => Fin.ext (by show _ / 64 = _; rw [e1]; omega)
    have f3 : ∀ h, (⟨(((codeRect (ph, pg)).emb (ix3 0 b d)) 1).val % 64, h⟩ : Fin 64) = b := fun _ => Fin.ext (by show _ % 64 = _; rw [e1]; omega)
    have f4 : ∀ h, (⟨(((codeRect (ph, pg)).emb (ix3 0 b d)) 2).val % 128, h⟩ : Fin 128) = d := fun _ => Fin.ext (by show _ % 128 = _; rw [e2]; omega)
    dsimp only
    rw [f1, f2, f3, f4]
  · exact code_col' w ⟨c.val / 128, by omega⟩ g r ⟨c.val % 128, by omega⟩ _ _
      (Fin.ext (by show (64 * g.val + r.val) / 64 = g.val; omega)) (Fin.ext (by show (64 * g.val + r.val) % 64 = r.val; omega))

end Cert.KernelIdeal.Hand

end
-- ==== Proof.RefPure.lean ====
module

public import proofs.«01_k».proof.Proof.Gen.ReferenceIdeal.Run
public import Idealize.ShloMosaic.Lib.Pointwise

@[expose] public section

set_option maxRecDepth 16384

noncomputable section

namespace Cert.ReferenceIdeal.Hand

open Cert.ReferenceIdeal Cert.ReferenceIdeal.Gen
open Idealize.ShloMosaic Idealize.ShloMosaic.TcCoe
open Idealize.SL.Sem

variable {F : FTy → Type} [FloatOps F]

/-- The rotated weights, by groups of rows. -/
def refW (X : Vec F S28x1536x256 .i8) (S : Vec F S28x256 .f32) (R1 : Vec F S1536x1536 .bf16) (R2 : Vec F S28x128x128 .bf16) : FVec F S28x12x128x256 .f32 :=
  shapeCast _ (shapeCast _ (Host.dotGeneral dot_S28x1536x2x128_S28x128x128_S28x1536x2x128_3_1_12_2_0_0 (some .fp32) (shapeCast _ (mulf (transpose S28x1536x256 [0, 2, 1] (Host.dotGeneral dot_S28x1536x256_S1536x1536_S28x256x1536_1_0_02_1_n_n none (sitofp .bf16 (extsi 32 X natLt_8_32)) R1) transposes_S28x256x1536_S28x1536x256_0_2_1) (broadcastInDim S28x1536x256 ![0, 1, 2] bcast_S28x1x256_S28x1536x256_0_1_2 (broadcastInDim S28x1x256 ![0, 2] bcast_S28x256_S28x1x256_0_2 S))) shapeCasts_S28x1536x256_S28x1536x2x128) (extf .f32 R2 bitsLt_bf16_f32)) shapeCasts_S28x1536x2x128_S28x1536x256) shapeCasts_S28x1536x256_S28x12x128x256

/-- The largest magnitude of each group. -/
def refA (w : FVec F S28x12x128x256 .f32) : FVec F S28x12x256 .f32 :=
  Host.reduce FloatOps.maximumf (Host.absf w) (constant S_ .f32 0xFF800000#32) reducesTo_S28x12x128x256_S28x12x256_d2 h_S_

/-- The scales of the groups, from their largest magnitudes. -/
def refS (a : FVec F S28x12x256 .f32) : FVec F S28x12x256 .bf16 :=
  truncf .bf16 (select (cmpf .oeq a (broadcastInDim S28x12x256 ![] bcast_S_S28x12x256 (constant S_ .f32 0x00000000#32))) (broadcastInDim S28x12x256 ![] bcast_S_S28x12x256 (id (constant S_ .f32 0x3F800000#32))) (Host.divf a (broadcastInDim S28x12x256 ![] bcast_S_S28x12x256 (constant S_ .f32 0x40E00000#32)))) bitsLt_bf16_f32

/-- The codes, one to a byte. -/
def refQ (w : FVec F S28x12x128x256 .f32) (s : FVec F S28x12x256 .bf16) : IVec S28x1536x256 8 :=
  shapeCast _ (trunci 8 (fptosi 32 (minimumf (broadcastInDim S28x12x128x256 ![] bcast_S_S28x12x128x256 (id (constant S_ .f32 0x40E00000#32))) (maximumf (broadcastInDim S28x12x128x256 ![] bcast_S_S28x12x128x256 (id (constant S_ .f32 0xC0E00000#32))) (Host.roundeven (Host.divf w (broadcastInDim S28x12x128x256 ![0, 1, 2, 3] bcast_S28x12x1x256_S28x12x128x256_0_1_2_3 (broadcastInDim S28x12x1x256 ![0, 1, 3] bcast_S28x12x256_S28x12x1x256_0_1_3 (extf .f32 s bitsLt_bf16_f32)))))))) natLt_8_32) shapeCasts_S28x12x128x256_S28x1536x256

/-- The codes, two to a byte. -/
def refP (q : IVec S28x1536x256 8) : IVec S28x768x256 8 :=
  trunci 8 (ori (andi (extsi 32 (Host.slice S28x768x256 ![0, 0, 0] ![1, 2, 1] q slicesBy_S28x1536x256_S28x768x256_0s1_0s2_0s1) natLt_8_32) (broadcastInDim S28x768x256 ![] bcast_S_S28x768x256 (constantI S_ 32 15#32))) (Host.shli (andi (extsi 32 (Host.slice S28x768x256 ![0, 1, 0] ![1, 2, 1] q slicesBy_S28x1536x256_S28x768x256_0s1_1s2_0s1) natLt_8_32) (broadcastInDim S28x768x256 ![] bcast_S_S28x768x256 (constantI S_ 32 15#32))) (broadcastInDim S28x768x256 ![] bcast_S_S28x768x256 (constantI S_ 32 4#32)))) natLt_8_32

/-- The run of the reference, its results in the words above. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v40) = refP (refQ (refW (m ((c.tc : Thread nD τ).loc main_arg0)) (m ((c.tc : Thread nD τ).loc main_arg1)) (m ((c.tc : Thread nD τ).loc main_arg2)) (m ((c.tc : Thread nD τ).loc main_arg3))) (refS (refA (refW (m ((c.tc : Thread nD τ).loc main_arg0)) (m ((c.tc : Thread nD τ).loc main_arg1)) (m ((c.tc : Thread nD τ).loc main_arg2)) (m ((c.tc : Thread nD τ).loc main_arg3))))))
      ∧ r.2.mem ((c.tc : Thread nD τ).loc main_v19) = refS (refA (refW (m ((c.tc : Thread nD τ).loc main_arg0)) (m ((c.tc : Thread nD τ).loc main_arg1)) (m ((c.tc : Thread nD τ).loc main_arg2)) (m ((c.tc : Thread nD τ).loc main_arg3))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Value.run m ρ

/-! ## The reference, read at an index -/

/-- One entry of the scaled product with the rotation. -/
def ra (X : Vec Ideal S28x1536x256 .i8) (S : FVec Ideal S28x256 .f32) (R1 : FVec Ideal S1536x1536 .bf16) (b : Fin 28) (i : Fin 1536) (c : Fin 256) : EReal :=
  (∑ k : Fin 1536, (FloatOps.sitofp (F := Ideal) .bf16 (BitVec.signExtend 32 (X (ix3 b k c))) : EReal) * R1 (ix2 k i)) * S (ix2 b c)

theorem refW_apply (X : Vec Ideal S28x1536x256 .i8) (S : FVec Ideal S28x256 .f32) (R1 : FVec Ideal S1536x1536 .bf16) (R2 : FVec Ideal S28x128x128 .bf16)
    (b : Fin 28) (g : Fin 12) (r : Fin 128) (c : Fin 256) :
    refW X S R1 R2 (ix4 b g r c) = ∑ d : Fin 128, ra X S R1 b ⟨g.val * 128 + r.val, by omega⟩ ⟨c.val / 128 * 128 + d.val, by omega⟩ * R2 (ix3 b d ⟨c.val % 128, by omega⟩) := by
  pointwise [refW, ra]

/-- A maximum over the third of four axes, read at an index. -/
theorem reduce_max {n0 n1 n2 n3 : ℕ} {u : Shape} (x : FVec Ideal ⟨4, ![n0, n1, n2, n3]⟩ .f32) (init : FVec Ideal u .f32)
    (h : (⟨4, ![n0, n1, n2, n3]⟩ : Shape).ReducesTo [2] ⟨3, ![n0, n1, n3]⟩) (hu : 0 < u.numel) (b : Fin n0) (g : Fin n1) (c : Fin n3) :
    Host.reduce (FloatOps.maximumf (F := Ideal) (φ := .f32)) x init h hu (ix3 b g c)
      = Finset.fold (α := Fin n2) (β := EReal) max (init (Shape.Idx.first hu)) (fun k => x (ix4 b g k c)) Finset.univ :=
  (Host.reduce_eq_fold (FloatOps.maximumf (F := Ideal) (φ := .f32)) x init h hu (ix3 b g c)).trans
    (h.fold_fiber_r4_a2 (ix3 b g c) (FloatOps.maximumf (F := Ideal) (φ := .f32)) (init (Shape.Idx.first hu)) x)

theorem refA_apply (w : FVec Ideal S28x12x128x256 .f32) (b : Fin 28) (g : Fin 12) (c : Fin 256) :
    refA w (ix3 b g c) = Finset.fold max (Ideal.ofBits .f32 0xFF800000#32) (fun x : Fin 128 => FloatOps.absf (F := Ideal) (φ := .f32) (w (ix4 b g x c))) Finset.univ := by
  exact reduce_max (Host.absf w) (constant S_ .f32 0xFF800000#32) reducesTo_S28x12x128x256_S28x12x256_d2 h_S_ b g c

theorem refS_apply (a : FVec Ideal S28x12x256 .f32) (b : Fin 28) (g : Fin 12) (c : Fin 256) :
    refS a (ix3 b g c) = if a (ix3 b g c) = 0 then (1 : EReal) else Ideal.div (a (ix3 b g c)) (Ideal.ofBits .f32 0x40E00000#32) := by
  pointwise [refS, id_eq]

theorem refQ_apply (w : FVec Ideal S28x12x128x256 .f32) (s : FVec Ideal S28x12x256 .bf16) (b : Fin 28) (r : Fin 1536) (c : Fin 256) :
    refQ w s (ix3 b r c) = BitVec.setWidth 8 (FloatOps.fptosi (F := Ideal) (φ := .f32) 32 (min (Ideal.ofBits .f32 0x40E00000#32) (max (Ideal.ofBits .f32 0xC0E00000#32)
      (Ideal.liftRound Ideal.roundHalfEven (Ideal.div (w (ix4 b ⟨r.val / 128, by omega⟩ ⟨r.val % 128, by omega⟩ c)) (s (ix3 b ⟨r.val / 128, by omega⟩ c))))))) := by
  pointwise [refQ, id_eq]

theorem refP_apply (q : IVec S28x1536x256 8) (b : Fin 28) (r : Fin 768) (c : Fin 256) :
    refP q (ix3 b r c) = BitVec.setWidth 8 (IntOp.ori (IntOp.andi (BitVec.signExtend 32 (q (ix3 b ⟨2 * r.val, by omega⟩ c))) 15#32)
        (IntOp.shli .host (IntOp.andi (BitVec.signExtend 32 (q (ix3 b ⟨1 + 2 * r.val, by omega⟩ c))) 15#32) 4#32)) := by
  pointwise [refP]

end Cert.ReferenceIdeal.Hand

end
-- ==== Proof.Value.lean ====
module

public import proofs.«01_k».proof.Proof.HandFrame
public import proofs.«01_k».proof.Proof.Pure
public import proofs.«01_k».proof.Proof.RefPure
public import Idealize.ShloMosaic.Lib.Pipeline.ValueKit
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat)
open Cert.Fold
open Cert.ReferenceIdeal.Hand (refW refA refS refQ refP ra refW_apply refA_apply refS_apply refQ_apply refP_apply)

/-! ## One head's entry against the reference's -/

theorem sitofp_ext (b : BitVec 8) : (FloatOps.sitofp (F := Ideal) .bf16 b : EReal) = FloatOps.sitofp (F := Ideal) .bf16 (BitVec.signExtend 32 b) := by
  show (((b.toInt : ℝ)) : EReal) = (((BitVec.signExtend 32 b).toInt : ℝ) : EReal)
  rw [BitVec.toInt_signExtend_of_le (by decide)]

/-- The rotated rows of a point quantise like the reference's, whatever blocks read as the arrays do. -/
theorem kw_alike (X : Vec Ideal S28x1536x256 .i8) (S : FVec Ideal S28x256 .f32) (R1 : FVec Ideal S1536x1536 .bf16) (R2 : FVec Ideal S28x128x128 .bf16)
    (x0 : Vec Ideal S1x1536x256 .i8) (x1 : FVec Ideal S1x1x256 .f32) (x3 : FVec Ideal S1x128x128 .bf16) (b : Fin 28)
    (h0 : ∀ k c, x0 (ix3 0 k c) = X (ix3 b k c)) (h1 : ∀ c, x1 (ix3 0 0 c) = S (ix2 b c)) (h3 : ∀ d e, x3 (ix3 0 d e) = R2 (ix3 b d e))
    (g : Fin 12) (r : Fin 128) (c : Fin 256) :
    Alike (kw x0 x1 x3 (fun k => R1 (ix2 k ⟨128 * g.val + r.val, by omega⟩)) ⟨c.val / 128, by omega⟩ ⟨c.val % 128, by omega⟩)
      (refW X S R1 R2 (ix4 b g r c)) := by
  have ha : ∀ q : Fin 256, ka x0 x1 (fun k => R1 (ix2 k ⟨128 * g.val + r.val, by omega⟩)) q = ra X S R1 b ⟨g.val * 128 + r.val, by omega⟩ q := fun q => by
    unfold ka ra
    rw [h1]
    congr 1
    refine Finset.sum_congr rfl fun k _ => ?_
    rw [h0, sitofp_ext, mul_comm]
    have hi : (⟨128 * g.val + r.val, by omega⟩ : Fin 1536) = ⟨g.val * 128 + r.val, by omega⟩ := Fin.ext (by show 128 * g.val + r.val = g.val * 128 + r.val; omega)
    rw [hi]
  have e := refW_apply X S R1 R2 b g r c
  refine e ▸ ?_
  have k := alike_split (fun d => ka x0 x1 (fun k => R1 (ix2 k ⟨128 * g.val + r.val, by omega⟩)) ⟨128 * (c.val / 128) + d.val, by omega⟩) (fun d => x3 (ix3 0 d ⟨c.val % 128, by omega⟩))
  have e2 : ∑ d : Fin 128, ka x0 x1 (fun k => R1 (ix2 k ⟨128 * g.val + r.val, by omega⟩)) ⟨128 * (c.val / 128) + d.val, by omega⟩ * x3 (ix3 0 d ⟨c.val % 128, by omega⟩)
      = ∑ d : Fin 128, ra X S R1 b ⟨g.val * 128 + r.val, by omega⟩ ⟨c.val / 128 * 128 + d.val, by omega⟩ * R2 (ix3 b d ⟨c.val % 128, by omega⟩) := by
    refine Finset.sum_congr rfl fun d _ => ?_
    rw [ha, h3]
    congr 2
    exact Fin.ext (by show 128 * (c.val / 128) + d.val = c.val / 128 * 128 + d.val; omega)
  exact e2 ▸ k

theorem t7_apply (R1 : FVec Ideal S1536x1536 .bf16) (i k : Fin 1536) : t7 (F := Ideal) R1 (ix2 i k) = R1 (ix2 k i) := by
  pointwise [t7]

theorem w8_alike (X : Vec Ideal S28x1536x256 .i8) (S : FVec Ideal S28x256 .f32) (R1 : FVec Ideal S1536x1536 .bf16) (R2 : FVec Ideal S28x128x128 .bf16)
    (x0 : Vec Ideal S1x1536x256 .i8) (x1 : FVec Ideal S1x1x256 .f32) (x3 : FVec Ideal S1x128x128 .bf16) (b : Fin 28)
    (h0 : ∀ k c, x0 (ix3 0 k c) = X (ix3 b k c)) (h1 : ∀ c, x1 (ix3 0 0 c) = S (ix2 b c)) (h3 : ∀ d e, x3 (ix3 0 d e) = R2 (ix3 b d e))
    (g : Fin 12) (c : Fin 256) (r : Fin 128) :
    Alike (col (W8 (F := Ideal) x0 x1 x3 (t7 (F := Ideal) R1)) ⟨c.val / 128, by omega⟩ g ⟨c.val % 128, by omega⟩ r) (refW X S R1 R2 (ix4 b g r c)) := by
  have ht : (fun k => t7 (F := Ideal) R1 (ix2 ⟨128 * g.val + r.val, by omega⟩ k)) = fun k => R1 (ix2 k ⟨128 * g.val + r.val, by omega⟩) := funext fun k => t7_apply R1 _ k
  have e := W8_apply x0 x1 x3 (t7 (F := Ideal) R1) ⟨c.val / 128, by omega⟩ ⟨128 * g.val + r.val, by omega⟩ ⟨c.val % 128, by omega⟩
  rw [ht] at e
  unfold col
  rw [e]
  exact kw_alike X S R1 R2 x0 x1 x3 b h0 h1 h3 g r c

/-! ## A point's scales and codes against the reference's -/

theorem point5 (w : FVec Ideal S2x1536x128 .f32) (R : FVec Ideal Cert.ReferenceIdeal.S28x12x128x256 .f32) (b : Fin 28)
    (h : ∀ (g : Fin 12) (c : Fin 256) (r : Fin 128), Alike (col w ⟨c.val / 128, by omega⟩ g ⟨c.val % 128, by omega⟩ r) (R (ix4 b g r c)))
    (g : Fin 12) (c : Fin 256) : S5 (F := Ideal) w (ix3 0 g c) = refS (refA R) (ix3 b g c) := by
  refine (S5_apply w g c).trans (Eq.trans ?_ (refS_apply (refA R) b g c).symm)
  rw [refA_apply, top_alike _ _ (h g c)]
  rfl

/-- A code kept in a byte has the same low four bits. -/
theorem nibble (x : BitVec 32) : IntOp.andi (BitVec.signExtend 32 (BitVec.setWidth 8 x)) 15#32 = IntOp.andi x 15#32 := by
  show BitVec.signExtend 32 (BitVec.setWidth 8 x) &&& 15#32 = x &&& 15#32
  refine BitVec.eq_of_getLsbD_eq fun i hi => ?_
  by_cases h : i < 8
  · have e : (BitVec.signExtend 32 (BitVec.setWidth 8 x)).getLsbD i = x.getLsbD i := by
      rw [BitVec.getLsbD_signExtend, BitVec.getLsbD_setWidth]; simp only [h, hi, decide_true, Bool.true_and, if_true]
    rw [BitVec.getLsbD_and, BitVec.getLsbD_and, e]
  · have : (15#32).getLsbD i = false := by
      have : ∀ i : Fin 32, ¬i.val < 8 → (15#32).getLsbD i.val = false := by decide
      exact this ⟨i, hi⟩ h
    simp only [BitVec.getLsbD_and, this, Bool.and_false]

theorem refQ_cod (R : FVec Ideal Cert.ReferenceIdeal.S28x12x128x256 .f32) (b : Fin 28) (g : Fin 12) (k : Fin 128) (r : Fin 1536) (hr : r.val = 128 * g.val + k.val) (c : Fin 256) :
    refQ R (refS (refA R)) (ix3 b r c) = BitVec.setWidth 8 (cod (R (ix4 b g k c)) (scl (top fun k => R (ix4 b g k c)))) := by
  have hg : (⟨r.val / 128, by omega⟩ : Fin 12) = g := Fin.ext (by show r.val / 128 = g.val; omega)
  have hk : (⟨r.val % 128, by omega⟩ : Fin 128) = k := Fin.ext (by show r.val % 128 = k.val; omega)
  refine (refQ_apply R _ b r c).trans ?_
  rw [hg, hk, refS_apply, refA_apply]
  rfl

theorem point4 (w : FVec Ideal S2x1536x128 .f32) (R : FVec Ideal Cert.ReferenceIdeal.S28x12x128x256 .f32) (b : Fin 28)
    (h : ∀ (g : Fin 12) (c : Fin 256) (r : Fin 128), Alike (col w ⟨c.val / 128, by omega⟩ g ⟨c.val % 128, by omega⟩ r) (R (ix4 b g r c)))
    (q : Fin 768) (c : Fin 256) : C4 (F := Ideal) w (ix3 0 q c) = refP (refQ R (refS (refA R))) (ix3 b q c) := by
  obtain ⟨g, r, rfl⟩ : ∃ (g : Fin 12) (r : Fin 64), q = ⟨64 * g.val + r.val, by omega⟩ :=
    ⟨⟨q.val / 64, by omega⟩, ⟨q.val % 64, by omega⟩, Fin.ext (by show q.val = 64 * (q.val / 64) + q.val % 64; omega)⟩
  refine (C4_apply w g r c).trans (Eq.trans ?_ (refP_apply _ b _ c).symm)
  rw [cod_alike _ _ (h g c), cod_alike _ _ (h g c), refQ_cod R b g ⟨2 * r.val, by omega⟩ ⟨2 * (64 * g.val + r.val), by omega⟩ (by show 2 * (64 * g.val + r.val) = 128 * g.val + 2 * r.val; omega),
    refQ_cod R b g ⟨2 * r.val + 1, by omega⟩ ⟨1 + 2 * (64 * g.val + r.val), by omega⟩ (by show 1 + 2 * (64 * g.val + r.val) = 128 * g.val + (2 * r.val + 1); omega), nibble, nibble]
  rfl

/-! ## The blocks a point reads -/

variable (m : (ℓ : Loc nD τ sig) → Buf (Elt Ideal) ℓ)

/-- The head a grid point works on. -/
def bat (t : Fin cfg0.N) : Fin 28 := ⟨t.val, by have : cfg0.N = 28 := N_0; omega⟩

theorem read0 (c : Dev nD) (t : Fin cfg0.N) (k : Fin 1536) (q : Fin 256) :
    (show Vec Ideal S1x1536x256 .i8 from iblk m c 0 t) (ix3 0 k q) = (show Vec Ideal S28x1536x256 .i8 from m ((c : Thread nD τ).loc main_arg0)) (ix3 (bat t) k q) := by
  blk_ext [iblk, V, idx t, bat]

theorem read1 (c : Dev nD) (t : Fin cfg0.N) (q : Fin 256) :
    (show FVec Ideal S1x1x256 .f32 from iblk m c 1 t) (ix3 0 0 q) = (show FVec Ideal S28x256 .f32 from m ((c : Thread nD τ).loc main_arg1)) (ix2 (bat t) q) := by
  blk_point [iblk, V, idx t, bat]

theorem read3 (c : Dev nD) (t : Fin cfg0.N) (d e : Fin 128) :
    (show FVec Ideal S1x128x128 .bf16 from iblk m c 3 t) (ix3 0 d e) = (show FVec Ideal S28x128x128 .bf16 from m ((c : Thread nD τ).loc main_arg3)) (ix3 (bat t) d e) := by
  blk_ext [iblk, V, idx t, bat]

/-- The reference's rotated rows, over the kernel's arguments. -/
def RW (c : Dev nD) : FVec Ideal Cert.ReferenceIdeal.S28x12x128x256 .f32 :=
  refW (m ((c : Thread nD τ).loc main_arg0)) (m ((c : Thread nD τ).loc main_arg1)) (m ((c : Thread nD τ).loc main_arg2)) (m ((c : Thread nD τ).loc main_arg3))

/-- Every entry of a point's rotated rows quantises like the reference's. -/
theorem wAt_alike (c : Dev nD) (t : Fin cfg0.N) (g : Fin 12) (q : Fin 256) (r : Fin 128) :
    Alike (col (wAt m c t) ⟨q.val / 128, by omega⟩ g ⟨q.val % 128, by omega⟩ r) (RW m c (ix4 (bat t) g r q)) :=
  w8_alike _ _ _ _ _ _ _ (bat t) (read0 m c t) (read1 m c t) (read3 m c t) g q r

/-! ## The result arrays -/

theorem final4 (c : Dev nD) : (dats m 0 c).arrAt 4 (cfgs 0).N = refP (refQ (RW m c) (refS (refA (RW m c)))) := by
  refine (dats m 0 c).arrAt_eq_of_covers 4 _ (by decide +kernel) fun t _ y => ?_
  blk_simp
  rw [after0_4]
  have hy : y = ix3 0 (y 1) (y 2) := by blk_ext
  have he : ((cfg0.win 4).blk t).view.emb y = ix3 (bat t) (y 1) (y 2) := by blk_ext [idx t, bat]
  rw [he]
  exact (congrArg _ hy).trans (point4 (wAt m c t) (RW m c) (bat t) (wAt_alike m c t) (y 1) (y 2))

theorem final5 (c : Dev nD) : (dats m 0 c).arrAt 5 (cfgs 0).N = refS (refA (RW m c)) := by
  refine (dats m 0 c).arrAt_eq_of_covers 5 _ (by decide +kernel) fun t _ y => ?_
  blk_simp
  rw [after0_5]
  have hy : y = ix3 0 (y 1) (y 2) := by blk_ext
  have he : ((cfg0.win 5).blk t).view.emb y = ix3 (bat t) (y 1) (y 2) := by blk_ext [idx t, bat]
  rw [he]
  exact (congrArg _ hy).trans (point5 (wAt m c t) (RW m c) (bat t) (wAt_alike m c t) (y 1) (y 2))

/-- The run, both results at the reference's words over the kernel's arguments. -/
theorem run_value (ρ : Dev nD → PrngReg) : θ_run defs (onTc (τ := τ) (main (F := Ideal))) ⟨m, fun _ => 0, ρ⟩ (fun r => ∀ c : Dev nD,
      r.2.mem ((c.tc : Thread nD τ).loc main_v1_0) = refP (refQ (RW m c) (refS (refA (RW m c))))
      ∧ r.2.mem ((c.tc : Thread nD τ).loc main_v1_1) = refS (refA (RW m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  run_from run_main m ρ
  · exact final4 m c
  · exact final5 m c

end Cert.KernelIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KFrame
public import proofs.«01_k».proof.Proof.Value
public import Idealize.ShloMosaic.Adequacy
public import Idealize.ShloMosaic.Init

@[expose] public section

set_option maxRecDepth 16384

noncomputable section

namespace Cert.Proof

open Idealize.ShloMosaic Idealize.SL.Sem Cert.Kernel

/-- The reference's frame: its run read at the arguments; it declares no semaphore. -/
theorem frame_r : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Hand.run (F := Ideal) m ρ)

open Cert.ReferenceIdeal.Hand (refW refA refS refQ refP) in
theorem refW_congr {X X' : Vec Ideal Cert.ReferenceIdeal.S28x1536x256 .i8} {S S' : FVec Ideal Cert.ReferenceIdeal.S28x256 .f32} {R1 R1' : FVec Ideal Cert.ReferenceIdeal.S1536x1536 .bf16}
    {R2 R2' : FVec Ideal Cert.ReferenceIdeal.S28x128x128 .bf16} (hX : X = X') (hS : S = S') (h1 : R1 = R1') (h2 : R2 = R2') : refW X S R1 R2 = refW X' S' R1' R2' := by
  subst hX hS h1 h2; rfl

open Cert.ReferenceIdeal.Hand (refW refA refS refQ refP) in
open Cert.KernelIdeal.Hand (RW) in
/-- Both results of the kernel are the reference's. -/
theorem algebraic : Cert.algebraic_KernelIdeal_ReferenceIdeal := by
  intro m g m' g' hpre hagree
  refine ⟨fun c => refP (refQ (RW m c) (refS (refA (RW m c)))), fun c => refS (refA (RW m c)), Cert.KernelIdeal.Hand.run_value m g, ?_⟩
  refine (θ_run Cert.ReferenceIdeal.defs _ _).mono (fun r h c => ?_) (Cert.ReferenceIdeal.Hand.run (F := Ideal) m' g')
  have e := refW_congr (hagree c).1 (hagree c).2.1 (hagree c).2.2.1 (hagree c).2.2.2
  exact ⟨(h c).1.trans (congrArg (fun w => refP (refQ w (refS (refA w)))) e), (h c).2.1.trans (congrArg (fun w => refS (refA w)) e), (h c).2.2⟩

theorem claim : Cert.Claim := ⟨Cert.Kernel.Gen.facts, Cert.KernelIdeal.Gen.facts, Cert.ReferenceIdeal.Gen.facts,
  fun m ρ _ => Cert.Kernel.Hand.frame m ρ, fun m ρ _ => Cert.KernelIdeal.Hand.frame m ρ, frame_r, trivial, algebraic⟩

end Cert.Proof

end
